-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))
      ∧ r.2.sem = fun _ => 0)

def preserves_Kernel_KernelIdeal : Prop :=
  IdealRules.named_const.Statement Cert.KernelIdeal.κ "score_scale_log2e" .f32 0x3E38AA3B#32 (((1 / 8) * (Real.log 2)⁻¹ : ℝ) : EReal)
  ∧ IdealRules.named_const.Statement Cert.KernelIdeal.κ "inv_d_model" .f32 0x3AAAAAAB#32 ((1 / 768 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)) (v4 : (c : Dev Cert.KernelIdeal.nD) → Buf (Elt Ideal) ((c.tc : Thread Cert.KernelIdeal.nD Cert.KernelIdeal.τ).loc Cert.KernelIdeal.main_v20_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_v20_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24_0) = v0 c
          ∧ r.2.mem ((c.tc : Thread Cert.ReferenceIdeal.nD Cert.ReferenceIdeal.τ).loc Cert.ReferenceIdeal.main_v24_1) = v1 c
          ∧ r.2.mem ((c.tc : Thread Cert.ReferenceIdeal.nD Cert.ReferenceIdeal.τ).loc Cert.ReferenceIdeal.main_v24_2) = v2 c
          ∧ r.2.mem ((c.tc : Thread Cert.ReferenceIdeal.nD Cert.ReferenceIdeal.τ).loc Cert.ReferenceIdeal.main_v24_3) = v3 c
          ∧ r.2.mem ((c.tc : Thread Cert.ReferenceIdeal.nD Cert.ReferenceIdeal.τ).loc Cert.ReferenceIdeal.main_v24_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x32x768 : Shape := ⟨3, ![512, 32, 768]⟩
abbrev S512x257x1408 : Shape := ⟨3, ![512, 257, 1408]⟩
abbrev S512x257 : Shape := ⟨2, ![512, 257]⟩
abbrev S512x768 : Shape := ⟨2, ![512, 768]⟩
abbrev S768x768 : Shape := ⟨2, ![768, 768]⟩
abbrev S768 : Shape := ⟨1, ![768]⟩
abbrev S1408x768 : Shape := ⟨2, ![1408, 768]⟩
abbrev S768x3072 : Shape := ⟨2, ![768, 3072]⟩
abbrev S3072 : Shape := ⟨1, ![3072]⟩
abbrev S3072x768 : Shape := ⟨2, ![3072, 768]⟩
abbrev S1x768 : Shape := ⟨2, ![1, 768]⟩
abbrev S1x3072 : Shape := ⟨2, ![1, 3072]⟩
abbrev S16384x768 : Shape := ⟨2, ![16384, 768]⟩
abbrev S512x256x1408 : Shape := ⟨3, ![512, 256, 1408]⟩
abbrev S512x32 : Shape := ⟨2, ![512, 32]⟩
abbrev S16384x3072 : Shape := ⟨2, ![16384, 3072]⟩
abbrev S256x768 : Shape := ⟨2, ![256, 768]⟩
abbrev S8x256x1408 : Shape := ⟨3, ![8, 256, 1408]⟩
abbrev S8x257 : Shape := ⟨2, ![8, 257]⟩
abbrev S8x768 : Shape := ⟨2, ![8, 768]⟩
abbrev S8x32 : Shape := ⟨2, ![8, 32]⟩
abbrev S256x3072 : Shape := ⟨2, ![256, 3072]⟩
abbrev S2x256x768 : Shape := ⟨3, ![2, 256, 768]⟩
abbrev S1x128 : Shape := ⟨2, ![1, 128]⟩
abbrev S32x128 : Shape := ⟨2, ![32, 128]⟩
abbrev S32x256 : Shape := ⟨2, ![32, 256]⟩
abbrev S128x256 : Shape := ⟨2, ![128, 256]⟩
abbrev S32 : Shape := ⟨1, ![32]⟩
abbrev S32x1 : Shape := ⟨2, ![32, 1]⟩
abbrev S256 : Shape := ⟨1, ![256]⟩
abbrev S256x1 : Shape := ⟨2, ![256, 1]⟩
abbrev S8x256 : Shape := ⟨2, ![8, 256]⟩
abbrev S256x8 : Shape := ⟨2, ![256, 8]⟩
abbrev S1x256x1408 : Shape := ⟨3, ![1, 256, 1408]⟩
abbrev S256x1408 : Shape := ⟨2, ![256, 1408]⟩
abbrev S1408x256 : Shape := ⟨2, ![1408, 256]⟩
abbrev S256x256 : Shape := ⟨2, ![256, 256]⟩
abbrev S1x256 : Shape := ⟨2, ![1, 256]⟩
abbrev S1x256x256 : Shape := ⟨3, ![1, 256, 256]⟩
abbrev S128x1 : Shape := ⟨2, ![128, 1]⟩
abbrev S128 : Shape := ⟨1, ![128]⟩
abbrev S8x32x32 : Shape := ⟨3, ![8, 32, 32]⟩
abbrev S256x32 : Shape := ⟨2, ![256, 32]⟩
abbrev S768x256 : Shape := ⟨2, ![768, 256]⟩

abbrev nBuf : Space → Nat
  | .hbm => 58
  | .vmem => 57
  | .smem => 0
  | _ => 0

abbrev bufTy : (tb : Table) → Fin (tcTables nBuf tb) → BufTy
  | .hbm, ⟨0, _⟩ => ⟨S512x32x768, .bf16⟩
  | .hbm, ⟨1, _⟩ => ⟨S512x257x1408, .fp8e4m3⟩
  | .hbm, ⟨2, _⟩ => ⟨S512x257, .f32⟩
  | .hbm, ⟨3, _⟩ => ⟨S512x768, .f32⟩
  | .hbm, ⟨4, _⟩ => ⟨S512x768, .f32⟩
  | .hbm, ⟨5, _⟩ => ⟨S768x768, .bf16⟩
  | .hbm, ⟨6, _⟩ => ⟨S768x768, .bf16⟩
  | .hbm, ⟨7, _⟩ => ⟨S768x768, .bf16⟩
  | .hbm, ⟨8, _⟩ => ⟨S768x768, .bf16⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S768, .f32⟩
  | .hbm, ⟨14, _⟩ => ⟨S768x768, .bf16⟩
  | .hbm, ⟨15, _⟩ => ⟨S768x768, .bf16⟩
  | .hbm, ⟨16, _⟩ => ⟨S768, .f32⟩
  | .hbm, ⟨17, _⟩ => ⟨S768, .f32⟩
  | .hbm, ⟨18, _⟩ => ⟨S1408x768, .fp8e4m3⟩
  | .hbm, ⟨19, _⟩ => ⟨S1408x768, .fp8e4m3⟩
  | .hbm, ⟨20, _⟩ => ⟨S768, .f32⟩
  | .hbm, ⟨21, _⟩ => ⟨S768, .f32⟩
  | .hbm, ⟨22, _⟩ => ⟨S768, .f32⟩
  | .hbm, ⟨23, _⟩ => ⟨S768, .f32⟩
  | .hbm, ⟨24, _⟩ => ⟨S768, .f32⟩
  | .hbm, ⟨25, _⟩ => ⟨S768x3072, .fp8e4m3⟩
  | .hbm, ⟨26, _⟩ => ⟨S3072, .f32⟩
  | .hbm, ⟨27, _⟩ => ⟨S3072, .f32⟩
  | .hbm, ⟨28, _⟩ => ⟨S3072x768, .fp8e4m3⟩
  | .hbm, ⟨29, _⟩ => ⟨S768, .f32⟩
  | .hbm, ⟨30, _⟩ => ⟨S768, .f32⟩
  | .hbm, ⟨31, _⟩ => ⟨S768, .f32⟩
  | .hbm, ⟨32, _⟩ => ⟨S768, .f32⟩
  | .hbm, ⟨33, _⟩ => ⟨S1x768, .f32⟩
  | .hbm, ⟨34, _⟩ => ⟨S1x768, .f32⟩
  | .hbm, ⟨35, _⟩ => ⟨S1x768, .f32⟩
  | .hbm, ⟨36, _⟩ => ⟨S1x768, .f32⟩
  | .hbm, ⟨37, _⟩ => ⟨S1x768, .f32⟩
  | .hbm, ⟨38, _⟩ => ⟨S1x768, .f32⟩
  | .hbm, ⟨39, _⟩ => ⟨S1x768, .f32⟩
  | .hbm, ⟨40, _⟩ => ⟨S1x768, .f32⟩
  | .hbm, ⟨41, _⟩ => ⟨S1x768, .f32⟩
  | .hbm, ⟨42, _⟩ => ⟨S1x768, .f32⟩
  | .hbm, ⟨43, _⟩ => ⟨S1x768, .f32⟩
  | .hbm, ⟨44, _⟩ => ⟨S1x768, .f32⟩
  | .hbm, ⟨45, _⟩ => ⟨S1x3072, .f32⟩
  | .hbm, ⟨46, _⟩ => ⟨S1x3072, .f32⟩
  | .hbm, ⟨47, _⟩ => ⟨S1x768, .f32⟩
  | .hbm, ⟨48, _⟩ => ⟨S1x768, .f32⟩
  | .hbm, ⟨49, _⟩ => ⟨S1x768, .f32⟩
  | .hbm, ⟨50, _⟩ => ⟨S1x768, .f32⟩
  | .hbm, ⟨51, _⟩ => ⟨S16384x768, .bf16⟩
  | .hbm, ⟨52, _⟩ => ⟨S512x256x1408, .fp8e4m3⟩
  | .hbm, ⟨53, _⟩ => ⟨S16384x768, .bf16⟩
  | .hbm, ⟨54, _⟩ => ⟨S16384x768, .fp8e4m3⟩
  | .hbm, ⟨55, _⟩ => ⟨S512x32, .f32⟩
  | .hbm, ⟨56, _⟩ => ⟨S16384x3072, .fp8e4m3⟩
  | .hbm, ⟨57, _⟩ => ⟨S512x32, .f32⟩
  | .local _ .vmem, ⟨0, _⟩ => ⟨S256x768, .bf16⟩
  | .local _ .vmem, ⟨1, _⟩ => ⟨S256x768, .bf16⟩
  | .local _ .vmem, ⟨2, _⟩ => ⟨S8x256x1408, .fp8e4m3⟩
  | .local _ .vmem, ⟨3, _⟩ => ⟨S8x256x1408, .fp8e4m3⟩
  | .local _ .vmem, ⟨4, _⟩ => ⟨S8x257, .f32⟩
  | .local _ .vmem, ⟨5, _⟩ => ⟨S8x257, .f32⟩
  | .local _ .vmem, ⟨6, _⟩ => ⟨S8x768, .f32⟩
  | .local _ .vmem, ⟨7, _⟩ => ⟨S8x768, .f32⟩
  | .local _ .vmem, ⟨8, _⟩ => ⟨S8x768, .f32⟩
  | .local _ .vmem, ⟨9, _⟩ => ⟨S8x768, .f32⟩
  | .local _ .vmem, ⟨10, _⟩ => ⟨S768x768, .bf16⟩
  | .local _ .vmem, ⟨11, _⟩ => ⟨S768x768, .bf16⟩
  | .local _ .vmem, ⟨12, _⟩ => ⟨S768x768, .bf16⟩
  | .local _ .vmem, ⟨13, _⟩ => ⟨S768x768, .bf16⟩
  | .local _ .vmem, ⟨14, _⟩ => ⟨S1x768, .f32⟩
  | .local _ .vmem, ⟨15, _⟩ => ⟨S1x768, .f32⟩
  | .local _ .vmem, ⟨16, _⟩ => ⟨S1x768, .f32⟩
  | .local _ .vmem, ⟨17, _⟩ => ⟨S1x768, .f32⟩
  | .local _ .vmem, ⟨18, _⟩ => ⟨S1x768, .f32⟩
  | .local _ .vmem, ⟨19, _⟩ => ⟨S768x768, .bf16⟩
  | .local _ .vmem, ⟨20, _⟩ => ⟨S768x768, .bf16⟩
  | .local _ .vmem, ⟨21, _⟩ => ⟨S1x768, .f32⟩
  | .local _ .vmem, ⟨22, _⟩ => ⟨S1x768, .f32⟩
  | .local _ .vmem, ⟨23, _⟩ => ⟨S1408x768, .fp8e4m3⟩
  | .local _ .vmem, ⟨24, _⟩ => ⟨S1408x768, .fp8e4m3⟩
  | .local _ .vmem, ⟨25, _⟩ => ⟨S1x768, .f32⟩
  | .local _ .vmem, ⟨26, _⟩ => ⟨S1x768, .f32⟩
  | .local _ .vmem, ⟨27, _⟩ => ⟨S1x768, .f32⟩
  | .local _ .vmem, ⟨28, _⟩ => ⟨S1x768, .f32⟩
  | .local _ .vmem, ⟨29, _⟩ => ⟨S1x768, .f32⟩
  | .local _ .vmem, ⟨30, _⟩ => ⟨S768x3072, .fp8e4m3⟩
  | .local _ .vmem, ⟨31, _⟩ => ⟨S1x3072, .f32⟩
  | .local _ .vmem, ⟨32, _⟩ => ⟨S1x3072, .f32⟩
  | .local _ .vmem, ⟨33, _⟩ => ⟨S3072x768, .fp8e4m3⟩
  | .local _ .vmem, ⟨34, _⟩ => ⟨S1x768, .f32⟩
  | .local _ .vmem, ⟨35, _⟩ => ⟨S1x768, .f32⟩
  | .local _ .vmem, ⟨36, _⟩ => ⟨S1x768, .f32⟩
  | .local _ .vmem, ⟨37, _⟩ => ⟨S1x768, .f32⟩
  | .local _ .vmem, ⟨38, _⟩ => ⟨S256x768, .bf16⟩
  | .local _ .vmem, ⟨39, _⟩ => ⟨S256x768, .bf16⟩
  | .local _ .vmem, ⟨40, _⟩ => ⟨S256x768, .fp8e4m3⟩
  | .local _ .vmem, ⟨41, _⟩ => ⟨S256x768, .fp8e4m3⟩
  | .local _ .vmem, ⟨42, _⟩ => ⟨S8x32, .f32⟩
  | .local _ .vmem, ⟨43, _⟩ => ⟨S8x32, .f32⟩
  | .local _ .vmem, ⟨44, _⟩ => ⟨S256x3072, .fp8e4m3⟩
  | .local _ .vmem, ⟨45, _⟩ => ⟨S256x3072, .fp8e4m3⟩
  | .local _ .vmem, ⟨46, _⟩ => ⟨S8x32, .f32⟩
  | .local _ .vmem, ⟨47, _⟩ => ⟨S8x32, .f32⟩
  | .local _ .vmem, ⟨48, _⟩ => ⟨S256x768, .bf16⟩
  | .local _ .vmem, ⟨49, _⟩ => ⟨S256x768, .bf16⟩
  | .local _ .vmem, ⟨50, _⟩ => ⟨S256x768, .bf16⟩
  | .local _ .vmem, ⟨51, _⟩ => ⟨S256x768, .bf16⟩
  | .local _ .vmem, ⟨52, _⟩ => ⟨S256x768, .f32⟩
  | .local _ .vmem, ⟨53, _⟩ => ⟨S256x768, .bf16⟩
  | .local _ .vmem, ⟨54, _⟩ => ⟨S2x256x768, .bf16⟩
  | .local _ .vmem, ⟨55, _⟩ => ⟨S2x256x768, .bf16⟩
  | .local _ .vmem, ⟨56, _⟩ => ⟨S256x3072, .f32⟩
  | _, _ => ⟨S512x32x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20_0 : Ref sig .tc := ⟨.hbm, 53, rfl⟩
abbrev main_v20_1 : Ref sig .tc := ⟨.hbm, 54, rfl⟩
abbrev main_v20_2 : Ref sig .tc := ⟨.hbm, 55, rfl⟩
abbrev main_v20_3 : Ref sig .tc := ⟨.hbm, 56, rfl⟩
abbrev main_v20_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg25_0 : Ref sig .tc := ⟨.vmem, 30, rfl⟩
abbrev cc0_stg26_0 : Ref sig .tc := ⟨.vmem, 31, rfl⟩
abbrev cc0_stg27_0 : Ref sig .tc := ⟨.vmem, 32, rfl⟩
abbrev cc0_stg28_0 : Ref sig .tc := ⟨.vmem, 33, rfl⟩
abbrev cc0_stg29_0 : Ref sig .tc := ⟨.vmem, 34, rfl⟩
abbrev cc0_stg30_0 : Ref sig .tc := ⟨.vmem, 35, rfl⟩
abbrev cc0_stg31_0 : Ref sig .tc := ⟨.vmem, 36, rfl⟩
abbrev cc0_stg32_0 : Ref sig .tc := ⟨.vmem, 37, rfl⟩
abbrev cc0_stg33_0 : Ref sig .tc := ⟨.vmem, 38, rfl⟩
abbrev cc0_stg33_1 : Ref sig .tc := ⟨.vmem, 39, rfl⟩
abbrev cc0_stg34_0 : Ref sig .tc := ⟨.vmem, 40, rfl⟩
abbrev cc0_stg34_1 : Ref sig .tc := ⟨.vmem, 41, rfl⟩
abbrev cc0_stg35_0 : Ref sig .tc := ⟨.vmem, 42, rfl⟩
abbrev cc0_stg35_1 : Ref sig .tc := ⟨.vmem, 43, rfl⟩
abbrev cc0_stg36_0 : Ref sig .tc := ⟨.vmem, 44, rfl⟩
abbrev cc0_stg36_1 : Ref sig .tc := ⟨.vmem, 45, rfl⟩
abbrev cc0_stg37_0 : Ref sig .tc := ⟨.vmem, 46, rfl⟩
abbrev cc0_stg37_1 : Ref sig .tc := ⟨.vmem, 47, rfl⟩
abbrev cc0_scratch0 : Ref sig .tc := ⟨.vmem, 48, rfl⟩
abbrev cc0_scratch1 : Ref sig .tc := ⟨.vmem, 49, rfl⟩
abbrev cc0_scratch2 : Ref sig .tc := ⟨.vmem, 50, rfl⟩
abbrev cc0_scratch3 : Ref sig .tc := ⟨.vmem, 51, rfl⟩
abbrev cc0_scratch4 : Ref sig .tc := ⟨.vmem, 52, rfl⟩
abbrev cc0_scratch5 : Ref sig .tc := ⟨.vmem, 53, rfl⟩
abbrev cc0_scratch6 : Ref sig .tc := ⟨.vmem, 54, rfl⟩
abbrev cc0_scratch7 : Ref sig .tc := ⟨.vmem, 55, rfl⟩
abbrev cc0_scratch8 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem25_0 : DmaSem sig := 30
abbrev cc0_sem26_0 : DmaSem sig := 31
abbrev cc0_sem27_0 : DmaSem sig := 32
abbrev cc0_sem28_0 : DmaSem sig := 33
abbrev cc0_sem29_0 : DmaSem sig := 34
abbrev cc0_sem30_0 : DmaSem sig := 35
abbrev cc0_sem31_0 : DmaSem sig := 36
abbrev cc0_sem32_0 : DmaSem sig := 37
abbrev cc0_sem33_0 : DmaSem sig := 38
abbrev cc0_sem33_1 : DmaSem sig := 39
abbrev cc0_sem34_0 : DmaSem sig := 40
abbrev cc0_sem34_1 : DmaSem sig := 41
abbrev cc0_sem35_0 : DmaSem sig := 42
abbrev cc0_sem35_1 : DmaSem sig := 43
abbrev cc0_sem36_0 : DmaSem sig := 44
abbrev cc0_sem36_1 : DmaSem sig := 45
abbrev cc0_sem37_0 : DmaSem sig := 46
abbrev cc0_sem37_1 : DmaSem sig := 47

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1408 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x257 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S768x768 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1408x768 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1408x768 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x768 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x768 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S768x3072 .fp8e4m3 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x3072 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x3072 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S3072x768 .fp8e4m3 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x768 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x768 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x768 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x768 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 2 → Memref sig .tc .vmem S256x768 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S256x768 .fp8e4m3 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S8x32 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S256x3072 .fp8e4m3 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S8x32 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]
-- ==== KernelIdeal.lean ====
variable {F : FTy → Type} [FloatOps F] [Named F]
def κ : String → Option EReal := fun
  | "inv_d_model" => some ((1 / 768 : ℝ) : EReal)
  | "score_scale_log2e" => some (((1 / 8) * (Real.log 2)⁻¹ : ℝ) : EReal)
  | _ => none
-- ==== ReferenceIdeal.lean ====
abbrev S512x32x768 : Shape := ⟨3, ![512, 32, 768]⟩
abbrev S512x257x1408 : Shape := ⟨3, ![512, 257, 1408]⟩
abbrev S512x257 : Shape := ⟨2, ![512, 257]⟩
abbrev S512x768 : Shape := ⟨2, ![512, 768]⟩
abbrev S768x768 : Shape := ⟨2, ![768, 768]⟩
abbrev S768 : Shape := ⟨1, ![768]⟩
abbrev S1408x768 : Shape := ⟨2, ![1408, 768]⟩
abbrev S768x3072 : Shape := ⟨2, ![768, 3072]⟩
abbrev S3072 : Shape := ⟨1, ![3072]⟩
abbrev S3072x768 : Shape := ⟨2, ![3072, 768]⟩
abbrev S16384x768 : Shape := ⟨2, ![16384, 768]⟩
abbrev S512x256x1408 : Shape := ⟨3, ![512, 256, 1408]⟩
abbrev S512x256 : Shape := ⟨2, ![512, 256]⟩
abbrev S512x1x768 : Shape := ⟨3, ![512, 1, 768]⟩
abbrev S1x768 : Shape := ⟨2, ![1, 768]⟩
abbrev S16x768 : Shape := ⟨2, ![16, 768]⟩
abbrev S1x3072 : Shape := ⟨2, ![1, 3072]⟩
abbrev S512x32 : Shape := ⟨2, ![512, 32]⟩
abbrev S16384x3072 : Shape := ⟨2, ![16384, 3072]⟩
abbrev S512x32x12x64 : Shape := ⟨4, ![512, 32, 12, 64]⟩
abbrev S512x12x32x64 : Shape := ⟨4, ![512, 12, 32, 64]⟩
abbrev S6144x32x64 : Shape := ⟨3, ![6144, 32, 64]⟩
abbrev S6144x32x32 : Shape := ⟨3, ![6144, 32, 32]⟩
abbrev S6144x32 : Shape := ⟨2, ![6144, 32]⟩
abbrev S6144x32x1 : Shape := ⟨3, ![6144, 32, 1]⟩
abbrev S16384 : Shape := ⟨1, ![16384]⟩
abbrev S16384x1 : Shape := ⟨2, ![16384, 1]⟩
abbrev S131072x1408 : Shape := ⟨2, ![131072, 1408]⟩
abbrev S131072x1 : Shape := ⟨2, ![131072, 1]⟩
abbrev S131072x768 : Shape := ⟨2, ![131072, 768]⟩
abbrev S512x256x768 : Shape := ⟨3, ![512, 256, 768]⟩
abbrev S512x257x768 : Shape := ⟨3, ![512, 257, 768]⟩
abbrev S512x257x12x64 : Shape := ⟨4, ![512, 257, 12, 64]⟩
abbrev S512x12x257x64 : Shape := ⟨4, ![512, 12, 257, 64]⟩
abbrev S6144x257x64 : Shape := ⟨3, ![6144, 257, 64]⟩
abbrev S6144x32x257 : Shape := ⟨3, ![6144, 32, 257]⟩

abbrev nBuf : Space → Nat
  | .hbm => 62
  | .vmem => 23
  | .smem => 0
  | _ => 0

abbrev bufTy : (tb : Table) → Fin (tcTables nBuf tb) → BufTy
  | .hbm, ⟨0, _⟩ => ⟨S512x32x768, .bf16⟩
  | .hbm, ⟨1, _⟩ => ⟨S512x257x1408, .fp8e4m3⟩
  | .hbm, ⟨2, _⟩ => ⟨S512x257, .f32⟩
  | .hbm, ⟨3, _⟩ => ⟨S512x768, .f32⟩
  | .hbm, ⟨4, _⟩ => ⟨S512x768, .f32⟩
  | .hbm, ⟨5, _⟩ => ⟨S768x768, .bf16⟩
  | .hbm, ⟨6, _⟩ => ⟨S768x768, .bf16⟩
  | .hbm, ⟨7, _⟩ => ⟨S768x768, .bf16⟩
  | .hbm, ⟨8, _⟩ => ⟨S768x768, .bf16⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S768, .f32⟩
  | .hbm, ⟨14, _⟩ => ⟨S768x768, .bf16⟩
  | .hbm, ⟨15, _⟩ => ⟨S768x768, .bf16⟩
  | .hbm, ⟨16, _⟩ => ⟨S768, .f32⟩
  | .hbm, ⟨17, _⟩ => ⟨S768, .f32⟩
  | .hbm, ⟨18, _⟩ => ⟨S1408x768, .fp8e4m3⟩
  | .hbm, ⟨19, _⟩ => ⟨S1408x768, .fp8e4m3⟩
  | .hbm, ⟨20, _⟩ => ⟨S768, .f32⟩
  | .hbm, ⟨21, _⟩ => ⟨S768, .f32⟩
  | .hbm, ⟨22, _⟩ => ⟨S768, .f32⟩
  | .hbm, ⟨23, _⟩ => ⟨S768, .f32⟩
  | .hbm, ⟨24, _⟩ => ⟨S768, .f32⟩
  | .hbm, ⟨25, _⟩ => ⟨S768x3072, .fp8e4m3⟩
  | .hbm, ⟨26, _⟩ => ⟨S3072, .f32⟩
  | .hbm, ⟨27, _⟩ => ⟨S3072, .f32⟩
  | .hbm, ⟨28, _⟩ => ⟨S3072x768, .fp8e4m3⟩
  | .hbm, ⟨29, _⟩ => ⟨S768, .f32⟩
  | .hbm, ⟨30, _⟩ => ⟨S768, .f32⟩
  | .hbm, ⟨31, _⟩ => ⟨S768, .f32⟩
  | .hbm, ⟨32, _⟩ => ⟨S768, .f32⟩
  | .hbm, ⟨33, _⟩ => ⟨S16384x768, .bf16⟩
  | .hbm, ⟨34, _⟩ => ⟨S512x256x1408, .fp8e4m3⟩
  | .hbm, ⟨35, _⟩ => ⟨S512x256, .f32⟩
  | .hbm, ⟨36, _⟩ => ⟨S512x1x768, .f32⟩
  | .hbm, ⟨37, _⟩ => ⟨S512x1x768, .f32⟩
  | .hbm, ⟨38, _⟩ => ⟨S1x768, .f32⟩
  | .hbm, ⟨39, _⟩ => ⟨S1x768, .f32⟩
  | .hbm, ⟨40, _⟩ => ⟨S1x768, .f32⟩
  | .hbm, ⟨41, _⟩ => ⟨S1x768, .f32⟩
  | .hbm, ⟨42, _⟩ => ⟨S1x768, .f32⟩
  | .hbm, ⟨43, _⟩ => ⟨S1x768, .f32⟩
  | .hbm, ⟨44, _⟩ => ⟨S1x768, .f32⟩
  | .hbm, ⟨45, _⟩ => ⟨S1x768, .f32⟩
  | .hbm, ⟨46, _⟩ => ⟨S1x768, .f32⟩
  | .hbm, ⟨47, _⟩ => ⟨S1x768, .f32⟩
  | .hbm, ⟨48, _⟩ => ⟨S1x768, .f32⟩
  | .hbm, ⟨49, _⟩ => ⟨S1x768, .f32⟩
  | .hbm, ⟨50, _⟩ => ⟨S1x768, .f32⟩
  | .hbm, ⟨51, _⟩ => ⟨S1x768, .f32⟩
  | .hbm, ⟨52, _⟩ => ⟨S1x768, .f32⟩
  | .hbm, ⟨53, _⟩ => ⟨S1x768, .f32⟩
  | .hbm, ⟨54, _⟩ => ⟨S16x768, .f32⟩
  | .hbm, ⟨55, _⟩ => ⟨S1x3072, .f32⟩
  | .hbm, ⟨56, _⟩ => ⟨S1x3072, .f32⟩
  | .hbm, ⟨57, _⟩ => ⟨S16384x768, .bf16⟩
  | .hbm, ⟨58, _⟩ => ⟨S16384x768, .fp8e4m3⟩
  | .hbm, ⟨59, _⟩ => ⟨S512x32, .f32⟩
  | .hbm, ⟨60, _⟩ => ⟨S16384x3072, .fp8e4m3⟩
  | .hbm, ⟨61, _⟩ => ⟨S512x32, .f32⟩
  | .local _ .vmem, ⟨0, _⟩ => ⟨S16384x768, .bf16⟩
  | .local _ .vmem, ⟨1, _⟩ => ⟨S512x256x1408, .fp8e4m3⟩
  | .local _ .vmem, ⟨2, _⟩ => ⟨S512x256, .f32⟩
  | .local _ .vmem, ⟨3, _⟩ => ⟨S512x1x768, .f32⟩
  | .local _ .vmem, ⟨4, _⟩ => ⟨S512x1x768, .f32⟩
  | .local _ .vmem, ⟨5, _⟩ => ⟨S768x768, .bf16⟩
  | .local _ .vmem, ⟨6, _⟩ => ⟨S768x768, .bf16⟩
  | .local _ .vmem, ⟨7, _⟩ => ⟨S768x768, .bf16⟩
  | .local _ .vmem, ⟨8, _⟩ => ⟨S768x768, .bf16⟩
  | .local _ .vmem, ⟨9, _⟩ => ⟨S768x768, .bf16⟩
  | .local _ .vmem, ⟨10, _⟩ => ⟨S768x768, .bf16⟩
  | .local _ .vmem, ⟨11, _⟩ => ⟨S1408x768, .fp8e4m3⟩
  | .local _ .vmem, ⟨12, _⟩ => ⟨S1408x768, .fp8e4m3⟩
  | .local _ .vmem, ⟨13, _⟩ => ⟨S768x3072, .fp8e4m3⟩
  | .local _ .vmem, ⟨14, _⟩ => ⟨S3072x768, .fp8e4m3⟩
  | .local _ .vmem, ⟨15, _⟩ => ⟨S16x768, .f32⟩
  | .local _ .vmem, ⟨16, _⟩ => ⟨S1x3072, .f32⟩
  | .local _ .vmem, ⟨17, _⟩ => ⟨S1x3072, .f32⟩
  | .local _ .vmem, ⟨18, _⟩ => ⟨S16384x768, .bf16⟩
  | .local _ .vmem, ⟨19, _⟩ => ⟨S16384x768, .fp8e4m3⟩
  | .local _ .vmem, ⟨20, _⟩ => ⟨S512x32, .f32⟩
  | .local _ .vmem, ⟨21, _⟩ => ⟨S16384x3072, .fp8e4m3⟩
  | .local _ .vmem, ⟨22, _⟩ => ⟨S512x32, .f32⟩
  | _, _ => ⟨S512x32x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24_0 : Ref sig .tc := ⟨.hbm, 57, rfl⟩
abbrev main_v24_1 : Ref sig .tc := ⟨.hbm, 58, rfl⟩
abbrev main_v24_2 : Ref sig .tc := ⟨.hbm, 59, rfl⟩
abbrev main_v24_3 : Ref sig .tc := ⟨.hbm, 60, rfl⟩
abbrev main_v24_4 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F] [Named F]

def κ : String → Option EReal := fun
  | "log_2" => some ((Real.log 2 : ℝ) : EReal)
  | _ => none

abbrev grid0 : Pipeline.Grid := .none

abbrev stage0_0 : Fin 1 → Memref sig .tc .vmem S16384x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256x1408 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1408x768 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1408x768 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S768x3072 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3072x768 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x3072 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16384x768 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S16384x768 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S512x32 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S16384x3072 .fp8e4m3 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S512x32 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
-- ==== Proof.FrameKernel.lean ====
/-
  The frame of `Kernel`: what the outputs hold per block, the proof data, the body obligation, the run and the frame. It is the
  generated module Gen/Kernel/Frame.lean with a larger heartbeat limit at `body_obligation`, which the default does not reach
  for 38 windows.
-/
module

public import proofs.«01_k».proof.Proof.Gen.Kernel.Frame.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 33 tile its block (1 store of `S256x768`, checked by the kernel's evaluation: Lib/Ring.lean `Piece.tiledL`, linear in the pieces, through a loop's `@[irreducible]` trip theorem too), so they cover it. -/
theorem cover0_A_33 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).1 S256x768.size (by sl_kernel_rfl) y

/-- What the run leaves in output 33's staging buffer: its pieces read back over junk. -/
def out0_A_33 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) : Vec F S256x768 .bf16 :=
  VO0_33.read (Elt F) (VO0_33.writes (Elt F) VO0_33.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).1)

/-- The run's pieces for output 34 tile its block (1 store of `S256x768`, checked by the kernel's evaluation: Lib/Ring.lean `Piece.tiledL`, linear in the pieces, through a loop's `@[irreducible]` trip theorem too), so they cover it. -/
theorem cover0_A_34 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.1 S256x768.size (by sl_kernel_rfl) y

/-- What the run leaves in output 34's staging buffer: its pieces read back over junk. -/
def out0_A_34 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) : Vec F S256x768 .fp8e4m3 :=
  VO0_34.read (Elt F) (VO0_34.writes (Elt F) VO0_34.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.1)

/-- The run's pieces for output 35 tile its block (1 store of `S8x32`, checked by the kernel's evaluation: Lib/Ring.lean `Piece.tiledL`, linear in the pieces, through a loop's `@[irreducible]` trip theorem too), so they cover it. -/
theorem cover0_A_35 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) (y : S8x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.1 S8x32.size (by sl_kernel_rfl) y

/-- What the run leaves in output 35's staging buffer: its pieces read back over junk. -/
def out0_A_35 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) : Vec F S8x32 .f32 :=
  VO0_35.read (Elt F) (VO0_35.writes (Elt F) VO0_35.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.1)

/-- The run's pieces for output 36 tile its block (12 stores of `S256x256`, checked by the kernel's evaluation: Lib/Ring.lean `Piece.tiledL`, linear in the pieces, through a loop's `@[irreducible]` trip theorem too), so they cover it. -/
theorem cover0_A_36 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) (y : S256x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.2.1 S256x256.size (by sl_kernel_rfl) y

/-- What the run leaves in output 36's staging buffer: its pieces read back over junk. -/
def out0_A_36 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) : Vec F S256x3072 .fp8e4m3 :=
  VO0_36.read (Elt F) (VO0_36.writes (Elt F) VO0_36.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.2.1)

/-- The run's pieces for output 37 tile its block (1 store of `S8x32`, checked by the kernel's evaluation: Lib/Ring.lean `Piece.tiledL`, linear in the pieces, through a loop's `@[irreducible]` trip theorem too), so they cover it. -/
theorem cover0_A_37 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) (y : S8x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.2.2.1 S8x32.size (by sl_kernel_rfl) y

/-- What the run leaves in output 37's staging buffer: its pieces read back over junk. -/
def out0_A_37 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) : Vec F S8x32 .f32 :=
  VO0_37.read (Elt F) (VO0_37.writes (Elt F) VO0_37.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.2.2.1)

/-! ## What the outputs hold after each point -/

/-- What the outputs' staging buffers hold after the body at point `t` (as a tuple, in window order): the run's contents at
    the point's memrefs and input blocks. -/
def outsAt0 (c : Dev nD) (t : Fin cfg0.N) : Vec F S256x768 .bf16 × Vec F S256x768 .fp8e4m3 × Vec F S8x32 .f32 × Vec F S256x3072 .fp8e4m3 × Vec F S8x32 .f32 :=
  (out0_A_33 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t), out0_A_34 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t), out0_A_35 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t), out0_A_36 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t), out0_A_37 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => (outsAt0 m c t).1
    | ⟨34, _⟩ => (outsAt0 m c t).2.1
    | ⟨35, _⟩ => (outsAt0 m c t).2.2.1
    | ⟨36, _⟩ => (outsAt0 m c t).2.2.2.1
    | ⟨37, _⟩ => (outsAt0 m c t).2.2.2.2
    | ⟨_ + 38, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = (outsAt0 m c t).1 := by dsimp only [dats]
theorem after0_34 (c : Dev nD) (t : Fin cfg0.N) : (dats m 0 c).after 34 t = (outsAt0 m c t).2.1 := by dsimp only [dats]
theorem after0_35 (c : Dev nD) (t : Fin cfg0.N) : (dats m 0 c).after 35 t = (outsAt0 m c t).2.2.1 := by dsimp only [dats]
theorem after0_36 (c : Dev nD) (t : Fin cfg0.N) : (dats m 0 c).after 36 t = (outsAt0 m c t).2.2.2.1 := by dsimp only [dats]
theorem after0_37 (c : Dev nD) (t : Fin cfg0.N) : (dats m 0 c).after 37 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t))

set_option maxHeartbeats 4400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37]
  rw [show (dats m 0 c).Φ t.castSucc = Pipeline.ΦA spec0 c from rfl, PhiA0_eq]
  unfold outsAt0
  unfold out0_A_33 out0_A_34 out0_A_35 out0_A_36 out0_A_37; (try dsimp only)
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t)).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexists _; iexact H33
  isplitl [H34]; · iexists _; iexact H34
  isplitl [H35]; · iexists _; iexact H35
  isplitl [H36]; · iexists _; iexact H36
  isplitl [H37]; · iexists _; iexact H37
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, H15, H16, H17, H18, H19, H20, H21, H22, H23, H24, H25, H26, H27, H28, H29, H30, H31, H32, ⟨%e33, H33⟩, ⟨%e34, H34⟩, ⟨%e35, H35⟩, ⟨%e36, H36⟩, ⟨%e37, H37⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩⟩
  isplitl [HS0 HS1 HS2 HS3 HS4 HS5 HS6 HS7 HS8 Hg]
  · isplitl [HS0 HS1 HS2 HS3 HS4 HS5 HS6 HS7 HS8]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      iexists _; unfold owns; iexists _; isplitr
      swap; · iexact HS8
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]
  · unfold owns; iexists _; isplitr
    swap; · iexact H33
    ipureintro; exact View.read_writes_of_cover _ _ _ _ _ (cover0_A_33 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H34]
  · unfold owns; iexists _; isplitr
    swap; · iexact H34
    ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H35]
  · unfold owns; iexists _; isplitr
    swap; · iexact H35
    ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H36]
  · unfold owns; iexists _; isplitr
    swap; · iexact H36
    ipureintro; exact View.read_writes_of_cover _ _ _ _ _ (cover0_A_36 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H37
  ipureintro; exact View.read_writes_of_cover _ _ _ _ _ (cover0_A_37 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32))
      ∧ r.2.sem = fun _ => 0) :=
  θ_run_and (unchanged m ρ) ((θ_run defs _ _).mono (fun _ h => h.2) (run_main_quiescent m ρ))

end Cert.Kernel.Gen

end
-- ==== Proof.FrameKernelIdeal.lean ====
/-
  The frame of `KernelIdeal`: what the outputs hold per block, the proof data, the body obligation, the run and the frame. It is the
  generated module Gen/KernelIdeal/Frame.lean with a larger heartbeat limit at `body_obligation`, which the default does not reach
  for 38 windows.
-/
module

public import proofs.«01_k».proof.Proof.Gen.KernelIdeal.Frame.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 33 tile its block (1 store of `S256x768`, checked by the kernel's evaluation: Lib/Ring.lean `Piece.tiledL`, linear in the pieces, through a loop's `@[irreducible]` trip theorem too), so they cover it. -/
theorem cover0_A_33 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).1 S256x768.size (by sl_kernel_rfl) y

/-- What the run leaves in output 33's staging buffer: its pieces read back over junk. -/
def out0_A_33 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) : Vec F S256x768 .bf16 :=
  VO0_33.read (Elt F) (VO0_33.writes (Elt F) VO0_33.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).1)

/-- The run's pieces for output 34 tile its block (1 store of `S256x768`, checked by the kernel's evaluation: Lib/Ring.lean `Piece.tiledL`, linear in the pieces, through a loop's `@[irreducible]` trip theorem too), so they cover it. -/
theorem cover0_A_34 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.1 S256x768.size (by sl_kernel_rfl) y

/-- What the run leaves in output 34's staging buffer: its pieces read back over junk. -/
def out0_A_34 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) : Vec F S256x768 .fp8e4m3 :=
  VO0_34.read (Elt F) (VO0_34.writes (Elt F) VO0_34.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.1)

/-- The run's pieces for output 35 tile its block (1 store of `S8x32`, checked by the kernel's evaluation: Lib/Ring.lean `Piece.tiledL`, linear in the pieces, through a loop's `@[irreducible]` trip theorem too), so they cover it. -/
theorem cover0_A_35 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) (y : S8x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.1 S8x32.size (by sl_kernel_rfl) y

/-- What the run leaves in output 35's staging buffer: its pieces read back over junk. -/
def out0_A_35 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) : Vec F S8x32 .f32 :=
  VO0_35.read (Elt F) (VO0_35.writes (Elt F) VO0_35.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.1)

/-- The run's pieces for output 36 tile its block (12 stores of `S256x256`, checked by the kernel's evaluation: Lib/Ring.lean `Piece.tiledL`, linear in the pieces, through a loop's `@[irreducible]` trip theorem too), so they cover it. -/
theorem cover0_A_36 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) (y : S256x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.2.1 S256x256.size (by sl_kernel_rfl) y

/-- What the run leaves in output 36's staging buffer: its pieces read back over junk. -/
def out0_A_36 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) : Vec F S256x3072 .fp8e4m3 :=
  VO0_36.read (Elt F) (VO0_36.writes (Elt F) VO0_36.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.2.1)

/-- The run's pieces for output 37 tile its block (1 store of `S8x32`, checked by the kernel's evaluation: Lib/Ring.lean `Piece.tiledL`, linear in the pieces, through a loop's `@[irreducible]` trip theorem too), so they cover it. -/
theorem cover0_A_37 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) (y : S8x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.2.2.1 S8x32.size (by sl_kernel_rfl) y

/-- What the run leaves in output 37's staging buffer: its pieces read back over junk. -/
def out0_A_37 (c : Dev nD) (i : grid0.Coords) (arg1 : Memref sig .tc .vmem S256x768 .bf16) (harg1 : arg1.IsWhole) (arg2 : Memref sig .tc .vmem S8x256x1408 .fp8e4m3) (harg2 : arg2.IsWhole) (arg3 : Memref sig .tc .vmem S8x257 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .bf16) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768x768 .bf16) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S768x768 .bf16) (harg15 : arg15.IsWhole) (arg16 : Memref sig .tc .vmem S768x768 .bf16) (harg16 : arg16.IsWhole) (arg17 : Memref sig .tc .vmem S1x768 .f32) (harg17 : arg17.IsWhole) (arg18 : Memref sig .tc .vmem S1x768 .f32) (harg18 : arg18.IsWhole) (arg19 : Memref sig .tc .vmem S1408x768 .fp8e4m3) (harg19 : arg19.IsWhole) (arg20 : Memref sig .tc .vmem S1408x768 .fp8e4m3) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x768 .f32) (harg25 : arg25.IsWhole) (arg26 : Memref sig .tc .vmem S768x3072 .fp8e4m3) (harg26 : arg26.IsWhole) (arg27 : Memref sig .tc .vmem S1x3072 .f32) (harg27 : arg27.IsWhole) (arg28 : Memref sig .tc .vmem S1x3072 .f32) (harg28 : arg28.IsWhole) (arg29 : Memref sig .tc .vmem S3072x768 .fp8e4m3) (harg29 : arg29.IsWhole) (arg30 : Memref sig .tc .vmem S1x768 .f32) (harg30 : arg30.IsWhole) (arg31 : Memref sig .tc .vmem S1x768 .f32) (harg31 : arg31.IsWhole) (arg32 : Memref sig .tc .vmem S1x768 .f32) (harg32 : arg32.IsWhole) (arg33 : Memref sig .tc .vmem S1x768 .f32) (harg33 : arg33.IsWhole) (arg34 : Memref sig .tc .vmem S256x768 .bf16) (harg34 : arg34.IsWhole) (arg35 : Memref sig .tc .vmem S256x768 .fp8e4m3) (harg35 : arg35.IsWhole) (arg36 : Memref sig .tc .vmem S8x32 .f32) (harg36 : arg36.IsWhole) (arg37 : Memref sig .tc .vmem S256x3072 .fp8e4m3) (harg37 : arg37.IsWhole) (arg38 : Memref sig .tc .vmem S8x32 .f32) (harg38 : arg38.IsWhole) (arg39 : Memref sig .tc .vmem S256x768 .bf16) (harg39 : arg39.IsWhole) (arg40 : Memref sig .tc .vmem S256x768 .bf16) (harg40 : arg40.IsWhole) (arg41 : Memref sig .tc .vmem S256x768 .bf16) (harg41 : arg41.IsWhole) (arg42 : Memref sig .tc .vmem S256x768 .bf16) (harg42 : arg42.IsWhole) (arg43 : Memref sig .tc .vmem S256x768 .f32) (harg43 : arg43.IsWhole) (arg44 : Memref sig .tc .vmem S256x768 .bf16) (harg44 : arg44.IsWhole) (arg45 : Memref sig .tc .vmem S2x256x768 .bf16) (harg45 : arg45.IsWhole) (arg46 : Memref sig .tc .vmem S2x256x768 .bf16) (harg46 : arg46.IsWhole) (arg47 : Memref sig .tc .vmem S256x3072 .f32) (harg47 : arg47.IsWhole)
    (x0 : Vec F S256x768 .bf16) (x1 : Vec F S8x256x1408 .fp8e4m3) (x2 : Vec F S8x257 .f32) (x3 : Vec F S8x768 .f32) (x4 : Vec F S8x768 .f32) (x5 : Vec F S768x768 .bf16) (x6 : Vec F S768x768 .bf16) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S768x768 .bf16) (x15 : Vec F S768x768 .bf16) (x16 : Vec F S1x768 .f32) (x17 : Vec F S1x768 .f32) (x18 : Vec F S1408x768 .fp8e4m3) (x19 : Vec F S1408x768 .fp8e4m3) (x20 : Vec F S1x768 .f32) (x21 : Vec F S1x768 .f32) (x22 : Vec F S1x768 .f32) (x23 : Vec F S1x768 .f32) (x24 : Vec F S1x768 .f32) (x25 : Vec F S768x3072 .fp8e4m3) (x26 : Vec F S1x3072 .f32) (x27 : Vec F S1x3072 .f32) (x28 : Vec F S3072x768 .fp8e4m3) (x29 : Vec F S1x768 .f32) (x30 : Vec F S1x768 .f32) (x31 : Vec F S1x768 .f32) (x32 : Vec F S1x768 .f32) : Vec F S8x32 .f32 :=
  VO0_37.read (Elt F) (VO0_37.writes (Elt F) VO0_37.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 x0 x1 x2 x3 x4 x5 x6 x7 x8 x9 x10 x11 x12 x13 x14 x15 x16 x17 x18 x19 x20 x21 x22 x23 x24 x25 x26 x27 x28 x29 x30 x31 x32).2.2.2.2.1)

/-! ## What the outputs hold after each point -/

/-- What the outputs' staging buffers hold after the body at point `t` (as a tuple, in window order): the run's contents at
    the point's memrefs and input blocks. -/
def outsAt0 (c : Dev nD) (t : Fin cfg0.N) : Vec F S256x768 .bf16 × Vec F S256x768 .fp8e4m3 × Vec F S8x32 .f32 × Vec F S256x3072 .fp8e4m3 × Vec F S8x32 .f32 :=
  (out0_A_33 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t), out0_A_34 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t), out0_A_35 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t), out0_A_36 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t), out0_A_37 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => (outsAt0 m c t).1
    | ⟨34, _⟩ => (outsAt0 m c t).2.1
    | ⟨35, _⟩ => (outsAt0 m c t).2.2.1
    | ⟨36, _⟩ => (outsAt0 m c t).2.2.2.1
    | ⟨37, _⟩ => (outsAt0 m c t).2.2.2.2
    | ⟨_ + 38, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = (outsAt0 m c t).1 := by dsimp only [dats]
theorem after0_34 (c : Dev nD) (t : Fin cfg0.N) : (dats m 0 c).after 34 t = (outsAt0 m c t).2.1 := by dsimp only [dats]
theorem after0_35 (c : Dev nD) (t : Fin cfg0.N) : (dats m 0 c).after 35 t = (outsAt0 m c t).2.2.1 := by dsimp only [dats]
theorem after0_36 (c : Dev nD) (t : Fin cfg0.N) : (dats m 0 c).after 36 t = (outsAt0 m c t).2.2.2.1 := by dsimp only [dats]
theorem after0_37 (c : Dev nD) (t : Fin cfg0.N) : (dats m 0 c).after 37 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t))

set_option maxHeartbeats 4400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37]
  rw [show (dats m 0 c).Φ t.castSucc = Pipeline.ΦA spec0 c from rfl, PhiA0_eq]
  unfold outsAt0
  unfold out0_A_33 out0_A_34 out0_A_35 out0_A_36 out0_A_37; (try dsimp only)
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t)).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexists _; iexact H33
  isplitl [H34]; · iexists _; iexact H34
  isplitl [H35]; · iexists _; iexact H35
  isplitl [H36]; · iexists _; iexact H36
  isplitl [H37]; · iexists _; iexact H37
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, H15, H16, H17, H18, H19, H20, H21, H22, H23, H24, H25, H26, H27, H28, H29, H30, H31, H32, ⟨%e33, H33⟩, ⟨%e34, H34⟩, ⟨%e35, H35⟩, ⟨%e36, H36⟩, ⟨%e37, H37⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩⟩
  isplitl [HS0 HS1 HS2 HS3 HS4 HS5 HS6 HS7 HS8 Hg]
  · isplitl [HS0 HS1 HS2 HS3 HS4 HS5 HS6 HS7 HS8]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      iexists _; unfold owns; iexists _; isplitr
      swap; · iexact HS8
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]
  · unfold owns; iexists _; isplitr
    swap; · iexact H33
    ipureintro; exact View.read_writes_of_cover _ _ _ _ _ (cover0_A_33 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H34]
  · unfold owns; iexists _; isplitr
    swap; · iexact H34
    ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H35]
  · unfold owns; iexists _; isplitr
    swap; · iexact H35
    ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H36]
  · unfold owns; iexists _; isplitr
    swap; · iexact H36
    ipureintro; exact View.read_writes_of_cover _ _ _ _ _ (cover0_A_36 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H37
  ipureintro; exact View.read_writes_of_cover _ _ _ _ _ (cover0_A_37 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32))
      ∧ r.2.sem = fun _ => 0) :=
  θ_run_and (unchanged m ρ) ((θ_run defs _ _).mono (fun _ h => h.2) (run_main_quiescent m ρ))

end Cert.KernelIdeal.Gen

end
-- ==== Proof.ValueKernelIdeal.lean ====
/-
  The value leg of `KernelIdeal`: the run with each output array named, and each of its blocks as what the block's grid point
  writes back. It is the generated module Gen/KernelIdeal/Value.lean over Proof/FrameKernelIdeal.lean.
-/
module

public import proofs.«01_k».proof.Proof.FrameKernelIdeal
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 33's array: the run's contents for that window after the body (`Gen.outsAt0`: its component 0), read through the window's block. -/
theorem flushed33 (c : Dev nD) (t : Fin cfg0.N) :
    (dats m 0 c).flushed 33 t = (cfg0.win 33).cut (grid0.coords t) ((outsAt0 m c t).1) := by
  show (cfg0.win 33).cut (grid0.coords t) ((dats m 0 c).after 33 t) = _
  rw [after0_33]

/-- … so at a point where case A runs, what its write-back would write is that case's NAMED TERM for the window (`Gen.out0_A_33`: the pieces
    its run found, read back) at the point's memrefs and input blocks, and for an output the case reads back what the point before left (`Gen.outsAt0` at `t - 1`) — the kernel's one case, `Gen.outsAt0` by definition. -/
theorem flushed33_A (c : Dev nD) (t : Fin cfg0.N) :
    (dats m 0 c).flushed 33 t = (cfg0.win 33).cut (grid0.coords t) (out0_A_33 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t)) := by
  simp only [flushed33, outsAt0]

/-- The index map sends distinct grid points to distinct block indices (decided over the 64 points). -/
theorem idx_inj33 : ∀ t t' : Fin cfg0.N, win0_33.index t = win0_33.index t' → t = t' :=
  (by decide +kernel : ∀ t t' : Fin grid0.N, win0_33.index t = win0_33.index t' → t = t')

/-- So two flushing points' blocks share no array index (Lib/Pipeline/Cells.lean `Window.disjoint_blk`). -/
theorem disjoint33 : ∀ t t' : Fin cfg0.N, (cfg0.win 33).flush t = true → (cfg0.win 33).flush t' = true → t ≠ t' →
    Disjoint ((cfg0.win 33).blk t).view.set ((cfg0.win 33).blk t').view.set :=
  fun t t' _ _ hne => (cfg0.win 33).disjoint_blk fun h => hne (idx_inj33 t t' h)

/-- BLOCK `t` OF THE FINAL ARRAY, read back through the window, is what point `t` wrote back (`flushed33`), for every
    point that writes back: no other point's block meets it. -/
theorem blocks33 (c : Dev nD) (t : Fin cfg0.N) (hf : (cfg0.win 33).flush t = true) :
    ((cfg0.win 33).blk t).view.read (Elt F) ((dats m 0 c).arrAt 33 cfg0.N) = (dats m 0 c).flushed 33 t :=
  (dats m 0 c).read_blk_arrAt_eq_flushed 33 disjoint33 cfg0.N t t.isLt hf

/-- An index that no flushing point's block covers keeps output window 33's array contents at region entry. -/
theorem entry33 (c : Dev nD) (i : S16384x768.Idx) (h : ∀ t : Fin cfg0.N, (cfg0.win 33).flush t = true → i ∉ ((cfg0.win 33).blk t).view.set) :
    (dats m 0 c).arrAt 33 cfg0.N i = V m c (Pipeline.arrRef spec0 33) i := by
  rw [(dats m 0 c).arrAt_apply_of_forall_not_mem 33 cfg0.N i (fun t _ hf => h t hf), A_eq]

/-- WHAT POINT `t` WRITES BACK to output window 34's array: the run's contents for that window after the body (`Gen.outsAt0`: its component 1), read through the window's block. -/
theorem flushed34 (c : Dev nD) (t : Fin cfg0.N) :
    (dats m 0 c).flushed 34 t = (cfg0.win 34).cut (grid0.coords t) ((outsAt0 m c t).2.1) := by
  show (cfg0.win 34).cut (grid0.coords t) ((dats m 0 c).after 34 t) = _
  rw [after0_34]

/-- … so at a point where case A runs, what its write-back would write is that case's NAMED TERM for the window (`Gen.out0_A_34`: the pieces
    its run found, read back) at the point's memrefs and input blocks, and for an output the case reads back what the point before left (`Gen.outsAt0` at `t - 1`) — the kernel's one case, `Gen.outsAt0` by definition. -/
theorem flushed34_A (c : Dev nD) (t : Fin cfg0.N) :
    (dats m 0 c).flushed 34 t = (cfg0.win 34).cut (grid0.coords t) (out0_A_34 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t)) := by
  simp only [flushed34, outsAt0]

/-- The index map sends distinct grid points to distinct block indices (decided over the 64 points). -/
theorem idx_inj34 : ∀ t t' : Fin cfg0.N, win0_34.index t = win0_34.index t' → t = t' :=
  (by decide +kernel : ∀ t t' : Fin grid0.N, win0_34.index t = win0_34.index t' → t = t')

/-- So two flushing points' blocks share no array index (Lib/Pipeline/Cells.lean `Window.disjoint_blk`). -/
theorem disjoint34 : ∀ t t' : Fin cfg0.N, (cfg0.win 34).flush t = true → (cfg0.win 34).flush t' = true → t ≠ t' →
    Disjoint ((cfg0.win 34).blk t).view.set ((cfg0.win 34).blk t').view.set :=
  fun t t' _ _ hne => (cfg0.win 34).disjoint_blk fun h => hne (idx_inj34 t t' h)

/-- BLOCK `t` OF THE FINAL ARRAY, read back through the window, is what point `t` wrote back (`flushed34`), for every
    point that writes back: no other point's block meets it. -/
theorem blocks34 (c : Dev nD) (t : Fin cfg0.N) (hf : (cfg0.win 34).flush t = true) :
    ((cfg0.win 34).blk t).view.read (Elt F) ((dats m 0 c).arrAt 34 cfg0.N) = (dats m 0 c).flushed 34 t :=
  (dats m 0 c).read_blk_arrAt_eq_flushed 34 disjoint34 cfg0.N t t.isLt hf

/-- An index that no flushing point's block covers keeps output window 34's array contents at region entry. -/
theorem entry34 (c : Dev nD) (i : S16384x768.Idx) (h : ∀ t : Fin cfg0.N, (cfg0.win 34).flush t = true → i ∉ ((cfg0.win 34).blk t).view.set) :
    (dats m 0 c).arrAt 34 cfg0.N i = V m c (Pipeline.arrRef spec0 34) i := by
  rw [(dats m 0 c).arrAt_apply_of_forall_not_mem 34 cfg0.N i (fun t _ hf => h t hf), A_eq]

/-- WHAT POINT `t` WRITES BACK to output window 35's array: the run's contents for that window after the body (`Gen.outsAt0`: its component 2), read through the window's block. -/
theorem flushed35 (c : Dev nD) (t : Fin cfg0.N) :
    (dats m 0 c).flushed 35 t = (cfg0.win 35).cut (grid0.coords t) ((outsAt0 m c t).2.2.1) := by
  show (cfg0.win 35).cut (grid0.coords t) ((dats m 0 c).after 35 t) = _
  rw [after0_35]

/-- … so at a point where case A runs, what its write-back would write is that case's NAMED TERM for the window (`Gen.out0_A_35`: the pieces
    its run found, read back) at the point's memrefs and input blocks, and for an output the case reads back what the point before left (`Gen.outsAt0` at `t - 1`) — the kernel's one case, `Gen.outsAt0` by definition. -/
theorem flushed35_A (c : Dev nD) (t : Fin cfg0.N) :
    (dats m 0 c).flushed 35 t = (cfg0.win 35).cut (grid0.coords t) (out0_A_35 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t)) := by
  simp only [flushed35, outsAt0]

/-- The index map sends distinct grid points to distinct block indices (decided over the 64 points). -/
theorem idx_inj35 : ∀ t t' : Fin cfg0.N, win0_35.index t = win0_35.index t' → t = t' :=
  (by decide +kernel : ∀ t t' : Fin grid0.N, win0_35.index t = win0_35.index t' → t = t')

/-- So two flushing points' blocks share no array index (Lib/Pipeline/Cells.lean `Window.disjoint_blk`). -/
theorem disjoint35 : ∀ t t' : Fin cfg0.N, (cfg0.win 35).flush t = true → (cfg0.win 35).flush t' = true → t ≠ t' →
    Disjoint ((cfg0.win 35).blk t).view.set ((cfg0.win 35).blk t').view.set :=
  fun t t' _ _ hne => (cfg0.win 35).disjoint_blk fun h => hne (idx_inj35 t t' h)

/-- BLOCK `t` OF THE FINAL ARRAY, read back through the window, is what point `t` wrote back (`flushed35`), for every
    point that writes back: no other point's block meets it. -/
theorem blocks35 (c : Dev nD) (t : Fin cfg0.N) (hf : (cfg0.win 35).flush t = true) :
    ((cfg0.win 35).blk t).view.read (Elt F) ((dats m 0 c).arrAt 35 cfg0.N) = (dats m 0 c).flushed 35 t :=
  (dats m 0 c).read_blk_arrAt_eq_flushed 35 disjoint35 cfg0.N t t.isLt hf

/-- An index that no flushing point's block covers keeps output window 35's array contents at region entry. -/
theorem entry35 (c : Dev nD) (i : S512x32.Idx) (h : ∀ t : Fin cfg0.N, (cfg0.win 35).flush t = true → i ∉ ((cfg0.win 35).blk t).view.set) :
    (dats m 0 c).arrAt 35 cfg0.N i = V m c (Pipeline.arrRef spec0 35) i := by
  rw [(dats m 0 c).arrAt_apply_of_forall_not_mem 35 cfg0.N i (fun t _ hf => h t hf), A_eq]

/-- WHAT POINT `t` WRITES BACK to output window 36's array: the run's contents for that window after the body (`Gen.outsAt0`: its component 3), read through the window's block. -/
theorem flushed36 (c : Dev nD) (t : Fin cfg0.N) :
    (dats m 0 c).flushed 36 t = (cfg0.win 36).cut (grid0.coords t) ((outsAt0 m c t).2.2.2.1) := by
  show (cfg0.win 36).cut (grid0.coords t) ((dats m 0 c).after 36 t) = _
  rw [after0_36]

/-- … so at a point where case A runs, what its write-back would write is that case's NAMED TERM for the window (`Gen.out0_A_36`: the pieces
    its run found, read back) at the point's memrefs and input blocks, and for an output the case reads back what the point before left (`Gen.outsAt0` at `t - 1`) — the kernel's one case, `Gen.outsAt0` by definition. -/
theorem flushed36_A (c : Dev nD) (t : Fin cfg0.N) :
    (dats m 0 c).flushed 36 t = (cfg0.win 36).cut (grid0.coords t) (out0_A_36 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t)) := by
  simp only [flushed36, outsAt0]

/-- The index map sends distinct grid points to distinct block indices (decided over the 64 points). -/
theorem idx_inj36 : ∀ t t' : Fin cfg0.N, win0_36.index t = win0_36.index t' → t = t' :=
  (by decide +kernel : ∀ t t' : Fin grid0.N, win0_36.index t = win0_36.index t' → t = t')

/-- So two flushing points' blocks share no array index (Lib/Pipeline/Cells.lean `Window.disjoint_blk`). -/
theorem disjoint36 : ∀ t t' : Fin cfg0.N, (cfg0.win 36).flush t = true → (cfg0.win 36).flush t' = true → t ≠ t' →
    Disjoint ((cfg0.win 36).blk t).view.set ((cfg0.win 36).blk t').view.set :=
  fun t t' _ _ hne => (cfg0.win 36).disjoint_blk fun h => hne (idx_inj36 t t' h)

/-- BLOCK `t` OF THE FINAL ARRAY, read back through the window, is what point `t` wrote back (`flushed36`), for every
    point that writes back: no other point's block meets it. -/
theorem blocks36 (c : Dev nD) (t : Fin cfg0.N) (hf : (cfg0.win 36).flush t = true) :
    ((cfg0.win 36).blk t).view.read (Elt F) ((dats m 0 c).arrAt 36 cfg0.N) = (dats m 0 c).flushed 36 t :=
  (dats m 0 c).read_blk_arrAt_eq_flushed 36 disjoint36 cfg0.N t t.isLt hf

/-- An index that no flushing point's block covers keeps output window 36's array contents at region entry. -/
theorem entry36 (c : Dev nD) (i : S16384x3072.Idx) (h : ∀ t : Fin cfg0.N, (cfg0.win 36).flush t = true → i ∉ ((cfg0.win 36).blk t).view.set) :
    (dats m 0 c).arrAt 36 cfg0.N i = V m c (Pipeline.arrRef spec0 36) i := by
  rw [(dats m 0 c).arrAt_apply_of_forall_not_mem 36 cfg0.N i (fun t _ hf => h t hf), A_eq]

/-- WHAT POINT `t` WRITES BACK to output window 37's array: the run's contents for that window after the body (`Gen.outsAt0`: its component 4), read through the window's block. -/
theorem flushed37 (c : Dev nD) (t : Fin cfg0.N) :
    (dats m 0 c).flushed 37 t = (cfg0.win 37).cut (grid0.coords t) ((outsAt0 m c t).2.2.2.2) := by
  show (cfg0.win 37).cut (grid0.coords t) ((dats m 0 c).after 37 t) = _
  rw [after0_37]

/-- … so at a point where case A runs, what its write-back would write is that case's NAMED TERM for the window (`Gen.out0_A_37`: the pieces
    its run found, read back) at the point's memrefs and input blocks, and for an output the case reads back what the point before left (`Gen.outsAt0` at `t - 1`) — the kernel's one case, `Gen.outsAt0` by definition. -/
theorem flushed37_A (c : Dev nD) (t : Fin cfg0.N) :
    (dats m 0 c).flushed 37 t = (cfg0.win 37).cut (grid0.coords t) (out0_A_37 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t)) := by
  simp only [flushed37, outsAt0]

/-- The index map sends distinct grid points to distinct block indices (decided over the 64 points). -/
theorem idx_inj37 : ∀ t t' : Fin cfg0.N, win0_37.index t = win0_37.index t' → t = t' :=
  (by decide +kernel : ∀ t t' : Fin grid0.N, win0_37.index t = win0_37.index t' → t = t')

/-- So two flushing points' blocks share no array index (Lib/Pipeline/Cells.lean `Window.disjoint_blk`). -/
theorem disjoint37 : ∀ t t' : Fin cfg0.N, (cfg0.win 37).flush t = true → (cfg0.win 37).flush t' = true → t ≠ t' →
    Disjoint ((cfg0.win 37).blk t).view.set ((cfg0.win 37).blk t').view.set :=
  fun t t' _ _ hne => (cfg0.win 37).disjoint_blk fun h => hne (idx_inj37 t t' h)

/-- BLOCK `t` OF THE FINAL ARRAY, read back through the window, is what point `t` wrote back (`flushed37`), for every
    point that writes back: no other point's block meets it. -/
theorem blocks37 (c : Dev nD) (t : Fin cfg0.N) (hf : (cfg0.win 37).flush t = true) :
    ((cfg0.win 37).blk t).view.read (Elt F) ((dats m 0 c).arrAt 37 cfg0.N) = (dats m 0 c).flushed 37 t :=
  (dats m 0 c).read_blk_arrAt_eq_flushed 37 disjoint37 cfg0.N t t.isLt hf

/-- An index that no flushing point's block covers keeps output window 37's array contents at region entry. -/
theorem entry37 (c : Dev nD) (i : S512x32.Idx) (h : ∀ t : Fin cfg0.N, (cfg0.win 37).flush t = true → i ∉ ((cfg0.win 37).blk t).view.set) :
    (dats m 0 c).arrAt 37 cfg0.N i = V m c (Pipeline.arrRef spec0 37) i := by
  rw [(dats m 0 c).arrAt_apply_of_forall_not_mem 37 cfg0.N i (fun t _ hf => h t hf), A_eq]

/-- After the frame run, output window 33's array is `(dats m 0 c).arrAt 33 N`. -/
theorem post33 (r : PUnit × MemSt nD τ sig (Elt F)) (h : Pipeline.FramePost cfgs (dats m) 0 (V m) r) (c : Dev nD) :
    r.2.mem ((c : Thread nD τ).loc main_v20_0) = (dats m 0 c).arrAt 33 cfg0.N :=
  (h c).1 33

/-- After the frame run, output window 34's array is `(dats m 0 c).arrAt 34 N`. -/
theorem post34 (r : PUnit × MemSt nD τ sig (Elt F)) (h : Pipeline.FramePost cfgs (dats m) 0 (V m) r) (c : Dev nD) :
    r.2.mem ((c : Thread nD τ).loc main_v20_1) = (dats m 0 c).arrAt 34 cfg0.N :=
  (h c).1 34

/-- After the frame run, output window 35's array is `(dats m 0 c).arrAt 35 N`. -/
theorem post35 (r : PUnit × MemSt nD τ sig (Elt F)) (h : Pipeline.FramePost cfgs (dats m) 0 (V m) r) (c : Dev nD) :
    r.2.mem ((c : Thread nD τ).loc main_v20_2) = (dats m 0 c).arrAt 35 cfg0.N :=
  (h c).1 35

/-- After the frame run, output window 36's array is `(dats m 0 c).arrAt 36 N`. -/
theorem post36 (r : PUnit × MemSt nD τ sig (Elt F)) (h : Pipeline.FramePost cfgs (dats m) 0 (V m) r) (c : Dev nD) :
    r.2.mem ((c : Thread nD τ).loc main_v20_3) = (dats m 0 c).arrAt 36 cfg0.N :=
  (h c).1 36

/-- After the frame run, output window 37's array is `(dats m 0 c).arrAt 37 N`. -/
theorem post37 (r : PUnit × MemSt nD τ sig (Elt F)) (h : Pipeline.FramePost cfgs (dats m) 0 (V m) r) (c : Dev nD) :
    r.2.mem ((c : Thread nD τ).loc main_v20_4) = (dats m 0 c).arrAt 37 cfg0.N :=
  (h c).1 37

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: input window 14 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

/-- After the frame run, argument `main_arg15` is as launched: input window 15 stages it and never writes it back. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: input window 18 stages it and never writes it back. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).1 18).trans (((dats m 0 c).arrAt_in 18 rfl _).trans ((A_eq m c 18).trans (V_main_arg18 m c)))

/-- After the frame run, argument `main_arg19` is as launched: input window 19 stages it and never writes it back. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).1 19).trans (((dats m 0 c).arrAt_in 19 rfl _).trans ((A_eq m c 19).trans (V_main_arg19 m c)))

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- After the frame run, argument `main_arg22` is as launched: no window stages it, and the run leaves the region's other buffers as they were. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

/-- After the frame run, argument `main_arg23` is as launched: no window stages it, and the run leaves the region's other buffers as they were. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)

/-- After the frame run, argument `main_arg24` is as launched: no window stages it, and the run leaves the region's other buffers as they were. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)

/-- After the frame run, argument `main_arg25` is as launched: input window 25 stages it and never writes it back. -/
theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).1 25).trans (((dats m 0 c).arrAt_in 25 rfl _).trans ((A_eq m c 25).trans (V_main_arg25 m c)))

/-- After the frame run, argument `main_arg26` is as launched: no window stages it, and the run leaves the region's other buffers as they were. -/
theorem kept_main_arg26 (r : PUnit × MemSt nD τ sig (Elt F)) (h : Pipeline.FramePost cfgs (dats m) 0 (V m) r) (c : Dev nD) :
    r.2.mem ((c : Thread nD τ).loc main_arg26) = m ((c : Thread nD τ).loc main_arg26) :=
  ((h c).2 main_arg26 (Pipeline.mem_restRefs_of main_arg26 (by decide) (by decide))).trans (V_main_arg26 m c)

/-- After the frame run, argument `main_arg27` is as launched: no window stages it, and the run leaves the region's other buffers as they were. -/
theorem kept_main_arg27 (r : PUnit × MemSt nD τ sig (Elt F)) (h : Pipeline.FramePost cfgs (dats m) 0 (V m) r) (c : Dev nD) :
    r.2.mem ((c : Thread nD τ).loc main_arg27) = m ((c : Thread nD τ).loc main_arg27) :=
  ((h c).2 main_arg27 (Pipeline.mem_restRefs_of main_arg27 (by decide) (by decide))).trans (V_main_arg27 m c)

/-- After the frame run, argument `main_arg28` is as launched: input window 28 stages it and never writes it back. -/
theorem kept_main_arg28 (r : PUnit × MemSt nD τ sig (Elt F)) (h : Pipeline.FramePost cfgs (dats m) 0 (V m) r) (c : Dev nD) :
    r.2.mem ((c : Thread nD τ).loc main_arg28) = m ((c : Thread nD τ).loc main_arg28) :=
  ((h c).1 28).trans (((dats m 0 c).arrAt_in 28 rfl _).trans ((A_eq m c 28).trans (V_main_arg28 m c)))

/-- After the frame run, argument `main_arg29` is as launched: no window stages it, and the run leaves the region's other buffers as they were. -/
theorem kept_main_arg29 (r : PUnit × MemSt nD τ sig (Elt F)) (h : Pipeline.FramePost cfgs (dats m) 0 (V m) r) (c : Dev nD) :
    r.2.mem ((c : Thread nD τ).loc main_arg29) = m ((c : Thread nD τ).loc main_arg29) :=
  ((h c).2 main_arg29 (Pipeline.mem_restRefs_of main_arg29 (by decide) (by decide))).trans (V_main_arg29 m c)

/-- After the frame run, argument `main_arg30` is as launched: no window stages it, and the run leaves the region's other buffers as they were. -/
theorem kept_main_arg30 (r : PUnit × MemSt nD τ sig (Elt F)) (h : Pipeline.FramePost cfgs (dats m) 0 (V m) r) (c : Dev nD) :
    r.2.mem ((c : Thread nD τ).loc main_arg30) = m ((c : Thread nD τ).loc main_arg30) :=
  ((h c).2 main_arg30 (Pipeline.mem_restRefs_of main_arg30 (by decide) (by decide))).trans (V_main_arg30 m c)

/-- After the frame run, argument `main_arg31` is as launched: no window stages it, and the run leaves the region's other buffers as they were. -/
theorem kept_main_arg31 (r : PUnit × MemSt nD τ sig (Elt F)) (h : Pipeline.FramePost cfgs (dats m) 0 (V m) r) (c : Dev nD) :
    r.2.mem ((c : Thread nD τ).loc main_arg31) = m ((c : Thread nD τ).loc main_arg31) :=
  ((h c).2 main_arg31 (Pipeline.mem_restRefs_of main_arg31 (by decide) (by decide))).trans (V_main_arg31 m c)

/-- After the frame run, argument `main_arg32` is as launched: no window stages it, and the run leaves the region's other buffers as they were. -/
theorem kept_main_arg32 (r : PUnit × MemSt nD τ sig (Elt F)) (h : Pipeline.FramePost cfgs (dats m) 0 (V m) r) (c : Dev nD) :
    r.2.mem ((c : Thread nD τ).loc main_arg32) = m ((c : Thread nD τ).loc main_arg32) :=
  ((h c).2 main_arg32 (Pipeline.mem_restRefs_of main_arg32 (by decide) (by decide))).trans (V_main_arg32 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v20_0) = (dats m 0 c).arrAt 33 cfg0.N
      ∧ r.2.mem ((c : Thread nD τ).loc main_v20_1) = (dats m 0 c).arrAt 34 cfg0.N
      ∧ r.2.mem ((c : Thread nD τ).loc main_v20_2) = (dats m 0 c).arrAt 35 cfg0.N
      ∧ r.2.mem ((c : Thread nD τ).loc main_v20_3) = (dats m 0 c).arrAt 36 cfg0.N
      ∧ r.2.mem ((c : Thread nD τ).loc main_v20_4) = (dats m 0 c).arrAt 37 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32) :=
  (θ_run defs _ _).mono (fun r h c => ⟨post33 m r h c,
      post34 m r h c,
      post35 m r h c,
      post36 m r h c,
      post37 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c,
      kept_main_arg27 m r h c,
      kept_main_arg28 m r h c,
      kept_main_arg29 m r h c,
      kept_main_arg30 m r h c,
      kept_main_arg31 m r h c,
      kept_main_arg32 m r h c⟩)
    (run_main m ρ)

end Cert.KernelIdeal.Value

end
-- ==== Proof.Spec.lean ====
/-
  The layer as plain mathematics over the extended reals, one sequence at a time: rows are functions of a
  coordinate, matrices functions of two. Both programs are proved equal to what is written here.
-/
module

public import Idealize.ShloMosaic.PureOps
public import Idealize.ShloMosaic.PureOps.Ideal.Laws

@[expose] public section

noncomputable section

open scoped BigOperators

namespace QFormer

open Idealize.ShloMosaic

/-- A vector of `n` numbers. -/
abbrev Row (n : ℕ) := Fin n → EReal
/-- A matrix of `m` rows of `n` numbers. -/
abbrev Mat (m n : ℕ) := Fin m → Fin n → EReal

/-- A row times a matrix. -/
def proj {k n : ℕ} (a : Row k) (w : Mat k n) : Row n := fun j => ∑ i, a i * w i j

/-- The largest entry of a row, `⊥` for none. -/
def rowMax {n : ℕ} (f : Row n) : EReal := (Finset.univ : Finset (Fin n)).fold max ⊥ f

/-- The mean of a row of 768. -/
def mean (h : Row 768) : EReal := Ideal.div (∑ i, h i) ((768 : ℝ) : EReal)

/-- The constant the variance is padded with. -/
def eps : EReal := Ideal.ofBits .f32 0x2B8CBCCC#32

/-- Layer normalisation of one row. -/
def layerNorm (h g b : Row 768) : Row 768 := fun j =>
  (h j - mean h) * Ideal.rsqrt (mean (fun i => (h i - mean h) * (h i - mean h)) + eps) * g j + b j

/-- Column `d` of head `h`. -/
def hcol (h : Fin 12) (d : Fin 64) : Fin 768 := ⟨h.val * 64 + d.val, by omega⟩
/-- The head a column belongs to. -/
def headOf (c : Fin 768) : Fin 12 := ⟨c.val / 64, by omega⟩

/-- The inner product of one head of two rows. -/
def headDot (q k : Row 768) (h : Fin 12) : EReal := ∑ d, q (hcol h d) * k (hcol h d)
/-- The attention score of two rows at one head. -/
def score (q k : Row 768) (h : Fin 12) : EReal := headDot q k h * ((1 / 8 : ℝ) : EReal)

/-- The exponentials a softmax divides: each entry's distance from the largest. -/
def expo {n : ℕ} (s : Row n) : Row n := fun j => Ideal.exp (s j - rowMax s)

/-- One row of self-attention: the softmax of its scores, applied to the values. -/
def selfCtx (q : Row 768) (K V : Mat 32 768) : Row 768 := fun c =>
  ∑ j, Ideal.div (expo (fun i => score q (K i) (headOf c)) j) (∑ i, expo (fun i => score q (K i) (headOf c)) i) * V j c

/-- One row of cross-attention; the exponentials are multiplied by the reciprocal of their sum. -/
def crossCtx (q : Row 768) (K V : Mat 257 768) : Row 768 := fun c =>
  ∑ j, (expo (fun i => score q (K i) (headOf c)) j * Ideal.div 1 (∑ i, expo (fun i => score q (K i) (headOf c)) i)) * V j c

/-- 256 rows and a last one. -/
def withLast (A : Mat 256 768) (l : Row 768) : Mat 257 768 := fun j =>
  if h : j.val < 256 then A ⟨j.val, h⟩ else l

/-- The largest magnitude of a row. -/
def absMax {n : ℕ} (v : Row n) : EReal := rowMax (fun i => max (v i) (-(v i)))

/-- The reciprocal of the largest code, as the programs round it. -/
def invCodeMax : EReal := Ideal.ofBits .f32 0x3B124925#32

/-- The exponent of a row's scale, from the row's largest magnitude. -/
def scaleExp (a : EReal) : EReal :=
  if a = 0 then 0
  else min ((126 : ℝ) : EReal) (max ((-126 : ℝ) : EReal)
    (Ideal.liftRound Int.floor (Ideal.div (Ideal.log (a * invCodeMax)) ((Real.log 2 : ℝ) : EReal)) + ((1 : ℝ) : EReal)))

/-- The scale of a row. -/
def scaleOf {n : ℕ} (v : Row n) : EReal := Ideal.exp2 (scaleExp (absMax v))

/-- The codes of a row: the row over its scale, clipped to the code range. -/
def codesOf {n : ℕ} (v : Row n) : Row n := fun j =>
  min ((448 : ℝ) : EReal) (max ((-448 : ℝ) : EReal) (v j * Ideal.exp2 (-(scaleExp (absMax v)))))

/-- The square root of one half, as the programs round it. -/
def sqrtHalf : EReal := Ideal.ofBits .f32 0x3F3504F3#32

/-- The Gaussian error linear unit. -/
def gelu (f : EReal) : EReal := ((1 / 2 : ℝ) : EReal) * f * (((1 : ℝ) : EReal) + Ideal.erf (f * sqrtHalf))

/-- The layer's weights. -/
structure Weights where
  wsq : Mat 768 768
  wsk : Mat 768 768
  wsv : Mat 768 768
  wso : Mat 768 768
  bsq : Row 768
  bsv : Row 768
  bso : Row 768
  g1 : Row 768
  b1 : Row 768
  wcq : Mat 768 768
  wco : Mat 768 768
  bcq : Row 768
  bco : Row 768
  wck : Mat 1408 768
  wcv : Mat 1408 768
  sck : Row 768
  scv : Row 768
  bcv : Row 768
  g2 : Row 768
  b2 : Row 768
  wf1 : Mat 768 3072
  sf1 : Row 3072
  bf1 : Row 3072
  wf2 : Mat 3072 768
  sf2 : Row 768
  bf2 : Row 768
  g3 : Row 768
  b3 : Row 768

/-- What one sequence brings: its 32 rows, the codes and scales of its 256 image tokens, and the key and value of
    the last image token. -/
structure Seq where
  x : Mat 32 768
  img : Mat 256 1408
  isc : Row 256
  kext : Row 768
  vext : Row 768

variable (W : Weights) (S : Seq)

def selfQ (s : Fin 32) : Row 768 := fun c => proj (S.x s) W.wsq c + W.bsq c
def selfK (s : Fin 32) : Row 768 := proj (S.x s) W.wsk
def selfV (s : Fin 32) : Row 768 := fun c => proj (S.x s) W.wsv c + W.bsv c
/-- The self-attention's output row, before its projection. -/
def ctx1 (s : Fin 32) : Row 768 := selfCtx (selfQ W S s) (selfK W S) (selfV W S)
/-- The row after self-attention and the first normalisation. -/
def h1 (s : Fin 32) : Row 768 :=
  layerNorm (fun c => S.x s c + (proj (ctx1 W S s) W.wso c + W.bso c)) W.g1 W.b1

def crossQ (s : Fin 32) : Row 768 := fun c => proj (h1 W S s) W.wcq c + W.bcq c
/-- The key of an image token. -/
def imgK (j : Fin 256) : Row 768 := fun c => proj (S.img j) W.wck c * S.isc j * W.sck c
/-- The value of an image token. -/
def imgV (j : Fin 256) : Row 768 := fun c => proj (S.img j) W.wcv c * S.isc j * W.scv c + W.bcv c
/-- The cross-attention's output row, before its projection. -/
def ctx2 (s : Fin 32) : Row 768 :=
  crossCtx (crossQ W S s) (withLast (imgK W S) S.kext) (withLast (imgV W S) S.vext)
/-- The row after cross-attention and the second normalisation. -/
def h2 (s : Fin 32) : Row 768 :=
  layerNorm (fun c => h1 W S s c + (proj (ctx2 W S s) W.wco c + W.bco c)) W.g2 W.b2

def h2Codes (s : Fin 32) : Row 768 := codesOf (h2 W S s)
def h2Scale (s : Fin 32) : EReal := scaleOf (h2 W S s)
/-- The feed-forward network's hidden row. -/
def hidden (s : Fin 32) : Row 3072 := fun j =>
  gelu (proj (h2Codes W S s) W.wf1 j * (h2Scale W S s * W.sf1 j) + W.bf1 j)
def gCodes (s : Fin 32) : Row 3072 := codesOf (hidden W S s)
def gScale (s : Fin 32) : EReal := scaleOf (hidden W S s)
/-- The layer's output row. -/
def out (s : Fin 32) : Row 768 :=
  layerNorm (fun c => h2 W S s c + (proj (gCodes W S s) W.wf2 c * (gScale W S s * W.sf2 c) + W.bf2 c)) W.g3 W.b3

end QFormer
-- ==== Proof.Laws.lean ====
/-
  The identities of extended reals that separate the two programs: the folded score scale, masked maxima and sums,
  a mean as a product, and the power-of-two scale read off a count of thresholds.
-/
module

public import proofs.«01_k».proof.Proof.Spec

@[expose] public section

noncomputable section

open scoped BigOperators

namespace QFormer

open Idealize.ShloMosaic

/-! ### The score scale -/

theorem exp2_scaled (x : EReal) :
    Ideal.exp2 (x * ((1 / 8 * (Real.log 2)⁻¹ : ℝ) : EReal)) = Ideal.exp (x * ((1 / 8 : ℝ) : EReal)) := by
  have hl : 0 < Real.log 2 := Real.log_pos one_lt_two
  have hc : 0 < (1 / 8 * (Real.log 2)⁻¹ : ℝ) := by positivity
  induction x with
  | bot => rw [EReal.bot_mul_coe_of_pos hc, EReal.bot_mul_coe_of_pos (by norm_num)]; rfl
  | top => rw [EReal.top_mul_coe_of_pos hc, EReal.top_mul_coe_of_pos (by norm_num)]; rfl
  | coe r =>
    rw [← EReal.coe_mul, ← EReal.coe_mul]
    show ((Real.rpow 2 _ : ℝ) : EReal) = ((Real.exp _ : ℝ) : EReal)
    congr 1
    show (2 : ℝ) ^ (_ : ℝ) = _
    rw [Real.rpow_def_of_pos two_pos]
    congr 1
    field_simp

theorem sub_mul_coe (a b : EReal) {c : ℝ} (hc : 0 < c) : (a - b) * (c : EReal) = a * c - b * c := by
  rw [mul_comm, sub_eq_add_neg, EReal.left_distrib_of_nonneg_of_ne_top (by exact_mod_cast hc.le) (EReal.coe_ne_top c),
    mul_comm _ a, mul_comm _ (-b), EReal.neg_mul, ← sub_eq_add_neg]

theorem max_mul_coe (a b : EReal) {c : ℝ} (hc : 0 < c) : max a b * (c : EReal) = max (a * c) (b * c) := by
  have hm : Monotone (fun x : EReal => x * (c : EReal)) := fun x y h =>
    mul_le_mul_of_nonneg_right h (by exact_mod_cast hc.le)
  exact hm.map_max

theorem fold_mul_coe {ι : Type} (s : Finset ι) (f : ι → EReal) {c : ℝ} (hc : 0 < c) :
    s.fold max ⊥ f * (c : EReal) = s.fold max ⊥ (fun i => f i * (c : EReal)) := by
  classical
  induction s using Finset.induction_on with
  | empty => simp [EReal.bot_mul_coe_of_pos hc]
  | insert a s ha ih => rw [Finset.fold_insert ha, Finset.fold_insert ha, max_mul_coe _ _ hc, ih]

/-- The distance from the largest score, scaled into the exponent of two, is the exponential of the scaled scores'
    distance. -/
theorem exp2_sub_max {n : ℕ} (f : Row n) (j : Fin n) :
    Ideal.exp2 ((f j - rowMax f) * ((1 / 8 * (Real.log 2)⁻¹ : ℝ) : EReal))
      = expo (fun i => f i * ((1 / 8 : ℝ) : EReal)) j := by
  rw [exp2_scaled, sub_mul_coe _ _ (by norm_num)]
  unfold expo rowMax
  rw [fold_mul_coe _ _ (by norm_num)]

/-! ### Maxima -/

theorem fold_max_eq_sup {ι : Type} (s : Finset ι) (f : ι → EReal) : s.fold max ⊥ f = s.sup f := rfl

theorem rowMax_eq_sup {n : ℕ} (f : Row n) : rowMax f = Finset.univ.sup f := rfl

/-- Entries sent to `⊥` off the image of an injection do not count. -/
theorem fold_max_of_embed {m n : ℕ} (g : Fin m → EReal) (f : Fin n → EReal) (e : Fin m → Fin n)
    (h : ∀ i, f (e i) = g i) (h' : ∀ j, (∀ i, e i ≠ j) → f j = ⊥) : rowMax f = rowMax g := by
  rw [rowMax_eq_sup, rowMax_eq_sup]
  refine le_antisymm (Finset.sup_le fun j _ => ?_) (Finset.sup_le fun i _ => ?_)
  · by_cases hj : ∃ i, e i = j
    · obtain ⟨i, rfl⟩ := hj
      rw [h]; exact Finset.le_sup (f := g) (Finset.mem_univ i)
    · rw [h' j (fun i hi => hj ⟨i, hi⟩)]; exact bot_le
  · rw [← h]; exact Finset.le_sup (f := f) (Finset.mem_univ _)

theorem sum_of_embed {m n : ℕ} (g : Fin m → EReal) (f : Fin n → EReal) (e : Fin m → Fin n)
    (he : Function.Injective e) (h : ∀ i, f (e i) = g i) (h' : ∀ j, (∀ i, e i ≠ j) → f j = 0) :
    ∑ j, f j = ∑ i, g i := by
  rw [← Finset.sum_congr rfl (fun i _ => h i)]
  symm
  apply Finset.sum_of_injOn e he.injOn (fun _ _ => Finset.mem_coe.2 (Finset.mem_univ _))
  · intro j _ hj
    exact h' j (fun i hi => hj ⟨i, Finset.mem_coe.2 (Finset.mem_univ _), hi⟩)
  · intro i _; rfl

/-- The largest of 257 entries is the larger of the first 256 entries' largest and the last. -/
theorem rowMax_succ {n : ℕ} (f : Row (n + 1)) : rowMax f = max (rowMax (fun i : Fin n => f i.castSucc)) (f (Fin.last n)) := by
  rw [rowMax_eq_sup, rowMax_eq_sup]
  refine le_antisymm (Finset.sup_le fun j _ => ?_) (max_le (Finset.sup_le fun i _ => ?_) ?_)
  · refine Fin.lastCases ?_ (fun i => ?_) j
    · exact le_max_right _ _
    · exact le_max_of_le_left (Finset.le_sup (f := fun i : Fin n => f i.castSucc) (Finset.mem_univ i))
  · exact Finset.le_sup (f := f) (Finset.mem_univ _)
  · exact Finset.le_sup (f := f) (Finset.mem_univ _)

theorem absMax_nonneg {n : ℕ} (v : Row n) (j : Fin n) : 0 ≤ absMax v := by
  have h : max (v j) (-(v j)) ≤ absMax v := by
    unfold absMax; rw [rowMax_eq_sup]
    exact Finset.le_sup (f := fun i => max (v i) (-(v i))) (Finset.mem_univ j)
  refine le_trans ?_ h
  rcases le_total 0 (v j) with h0 | h0
  · exact le_max_of_le_left h0
  · exact le_max_of_le_right (by simpa using EReal.neg_le_neg_iff.2 h0)

/-! ### The mean -/

theorem mul_inv_768 (x : EReal) : x * ((1 / 768 : ℝ) : EReal) = Ideal.div x ((768 : ℝ) : EReal) := by
  unfold Ideal.div
  rw [if_neg (by norm_num [← EReal.coe_zero, EReal.coe_eq_coe_iff]), ← EReal.coe_inv]
  norm_num

/-! ### The scale -/

/-- The threshold of lane `e`: the number whose word is `e` in the exponent field. -/
def threshold (e : ℕ) : EReal := Ideal.ofBits .f32 (BitVec.ofNat 32 e <<< 23)

theorem field_facts : ∀ e : Fin 256, ((BitVec.ofNat 32 e.val <<< 23).extractLsb' 23 8).toNat = e.val
    ∧ ((BitVec.ofNat 32 e.val <<< 23).extractLsb' 0 23).toNat = 0
    ∧ ((BitVec.ofNat 32 e.val <<< 23).extractLsb' 31 1 == 1#1) = false := by decide +kernel

theorem threshold_zero : threshold 0 = 0 := by
  unfold threshold; simp [Ideal.ofBits, Ideal.ieee]

theorem threshold_top : threshold 255 = ⊤ := by
  obtain ⟨h1, h2, h3⟩ := field_facts ⟨255, by norm_num⟩
  simp only [threshold, Ideal.ofBits, Ideal.ieee]
  simp only at h1 h2 h3
  rw [h1, h2, h3, if_pos (by norm_num), if_pos rfl, if_neg (by simp)]

theorem normal_eq (e : ℕ) : (if false = true then (-1 : ℝ) else 1) * ((2 ^ 23 + 0 : ℕ) : ℝ)
    * (2 : ℝ) ^ ((e : ℤ) - (2 ^ (8 - 1) - 1) - ((23 : ℕ) : ℤ)) = (2 : ℝ) ^ ((e : ℤ) - 127) := by
  have h23 : ((2 ^ 23 + 0 : ℕ) : ℝ) = (2 : ℝ) ^ (23 : ℤ) := by norm_num
  have h127 : (e : ℤ) - 127 = 23 + ((e : ℤ) - (2 ^ (8 - 1) - 1) - ((23 : ℕ) : ℤ)) := by norm_num
  rw [if_neg Bool.false_ne_true, h23, one_mul, h127, zpow_add₀ two_ne_zero]

theorem threshold_normal (e : ℕ) (h0 : 1 ≤ e) (h : e ≤ 254) : threshold e = (((2 : ℝ) ^ ((e : ℤ) - 127) : ℝ) : EReal) := by
  obtain ⟨h1, h2, h3⟩ := field_facts ⟨e, by omega⟩
  simp only [threshold, Ideal.ofBits, Ideal.ieee]
  simp only at h1 h2 h3
  rw [h1, h2, h3, if_neg (by norm_num; omega), if_neg (by omega)]
  exact congrArg (fun r : ℝ => (r : EReal)) (normal_eq e)

theorem exp2_int (k : ℤ) : Ideal.exp2 (((k : ℝ)) : EReal) = (((2 : ℝ) ^ k : ℝ) : EReal) := by
  show ((Real.rpow 2 _ : ℝ) : EReal) = _
  congr 1
  exact Real.rpow_intCast 2 k

/-- How many thresholds are at most `x`. -/
def countLe (x : EReal) : ℕ := (Finset.univ.filter fun e : Fin 256 => threshold e.val ≤ x).card

theorem card_filter_lt (n : ℕ) (h : n ≤ 256) : (Finset.univ.filter fun e : Fin 256 => e.val < n).card = n := by
  rw [Fin.card_filter_val_lt]; omega

theorem countLe_of {x : EReal} (n : ℕ) (hn : n ≤ 256) (h : ∀ e : Fin 256, threshold e.val ≤ x ↔ e.val < n) :
    countLe x = n := by
  unfold countLe
  rw [Finset.filter_congr (fun e _ => h e), card_filter_lt n hn]

/-- The clipped exponent of a positive number, from the count. -/
theorem scaleExp_eq {a : EReal} (ha : 0 < a) :
    1 ≤ countLe (a * invCodeMax) ∧ countLe (a * invCodeMax) ≤ 256 ∧
    scaleExp a = ((((min (countLe (a * invCodeMax) - 1) 252 : ℕ) : ℤ) - 126 : ℤ) : ℝ) := by
  have hc : ∃ c : ℝ, 0 < c ∧ invCodeMax = (c : EReal) := by
    refine ⟨_, ?_, by simp only [invCodeMax, Ideal.ofBits, Ideal.ieee]; rfl⟩
    simp
  obtain ⟨c, hc0, hc⟩ := hc
  unfold scaleExp
  rw [if_neg ha.ne', hc]
  induction a with
  | bot => exact absurd ha (by simp)
  | top =>
    have hcount : countLe (⊤ * (c : EReal)) = 256 := by
      rw [EReal.top_mul_coe_of_pos hc0]
      exact countLe_of 256 le_rfl (fun e => ⟨fun _ => e.isLt, fun _ => le_top⟩)
    rw [hcount, EReal.top_mul_coe_of_pos hc0]
    refine ⟨by norm_num, le_rfl, ?_⟩
    have hl : 0 < Real.log 2 := Real.log_pos one_lt_two
    have : Ideal.div (Ideal.log ⊤) ((Real.log 2 : ℝ) : EReal) = ⊤ := by
      show Ideal.div ⊤ _ = ⊤
      unfold Ideal.div
      rw [if_neg (by exact_mod_cast hl.ne'), ← EReal.coe_inv, EReal.top_mul_coe_of_pos (inv_pos.2 hl)]
    rw [this]
    show min _ (max _ (⊤ + _)) = _
    rw [EReal.top_add_coe, max_eq_right le_top, min_eq_left le_top]
    norm_num
  | coe r =>
    have hr : 0 < r := by exact_mod_cast ha
    rw [← EReal.coe_mul]
    set y := r * c with hy
    have hy0 : 0 < y := mul_pos hr hc0
    have hl : 0 < Real.log 2 := Real.log_pos one_lt_two
    set L : ℤ := ⌊Real.log y / Real.log 2⌋ with hL
    have hpow : ∀ k : ℤ, (2 : ℝ) ^ k ≤ y ↔ k ≤ L := by
      intro k
      rw [hL, Int.le_floor, le_div_iff₀ hl, ← Real.log_zpow, Real.log_le_log_iff (by positivity) hy0]
    have hcount : countLe (y : EReal) = (max 0 (min (L + 127) 254)).toNat + 1 := by
      refine countLe_of _ (by omega) (fun e => ?_)
      rcases Nat.eq_zero_or_pos e.val with h0 | h0
      · rw [h0, threshold_zero]
        refine ⟨fun _ => by omega, fun _ => by exact_mod_cast hy0.le⟩
      · rcases Nat.lt_or_ge e.val 255 with h1 | h1
        · rw [threshold_normal _ h0 (by omega), EReal.coe_le_coe_iff, hpow]; omega
        · have h2 : e.val = 255 := by omega
          rw [h2, threshold_top]
          refine ⟨fun h => absurd h (by simp), fun h => by omega⟩
    rw [hcount]
    refine ⟨by omega, by omega, ?_⟩
    have hd : Ideal.div (Ideal.log (y : EReal)) ((Real.log 2 : ℝ) : EReal) = ((Real.log y / Real.log 2 : ℝ) : EReal) := by
      have : Ideal.log (y : EReal) = (Real.log y : EReal) := by
        show (if y ≤ 0 then ⊥ else (Real.log y : EReal)) = _
        rw [if_neg (not_le.2 hy0)]
      rw [this]
      unfold Ideal.div
      rw [if_neg (by exact_mod_cast hl.ne'), ← EReal.coe_inv, ← EReal.coe_mul, div_eq_mul_inv]
    rw [hd]
    show min _ (max _ (((L : ℝ) : EReal) + _)) = _
    rw [← EReal.coe_add, ← EReal.coe_strictMono.monotone.map_max, ← EReal.coe_strictMono.monotone.map_min]
    congr 1
    have : (((min ((max 0 (min (L + 127) 254)).toNat + 1 - 1) 252 : ℕ) : ℤ) - 126 : ℤ) = min 126 (max (-126) (L + 1)) := by
      omega
    rw [this]
    push_cast
    rfl

/-- The word of a row's biased exponent as the kernel forms it from the count. -/
def biasedOf (a : EReal) : BitVec 32 :=
  if a = 0 then 126#32 else IntOp.minsi (BitVec.ofNat 32 (countLe (a * invCodeMax)) - 1#32) 252#32

theorem word_facts : ∀ n : Fin 257, 1 ≤ n.val →
    IntOp.minsi (BitVec.ofNat 32 n.val - 1#32) 252#32 = BitVec.ofNat 32 (min (n.val - 1) 252) := by decide +kernel

theorem scale_word_facts : ∀ n : Fin 253,
    (BitVec.ofNat 32 n.val + 1#32) = BitVec.ofNat 32 (n.val + 1) ∧ (253#32 - BitVec.ofNat 32 n.val) = BitVec.ofNat 32 (253 - n.val) := by
  decide +kernel

theorem biasedOf_eq {a : EReal} (ha : 0 ≤ a) : ∃ n : ℕ, n ≤ 252 ∧ biasedOf a = BitVec.ofNat 32 n ∧
    scaleExp a = ((((n : ℤ) - 126 : ℤ) : ℝ) : EReal) := by
  by_cases h : a = 0
  · refine ⟨126, by norm_num, by simp [biasedOf, h], ?_⟩
    simp [scaleExp, h]
  · obtain ⟨h1, h2, h3⟩ := scaleExp_eq (lt_of_le_of_ne ha (Ne.symm h))
    refine ⟨min (countLe (a * invCodeMax) - 1) 252, min_le_right _ _, ?_, h3⟩
    rw [biasedOf, if_neg h]
    exact word_facts ⟨countLe (a * invCodeMax), by omega⟩ h1

theorem scale_word {a : EReal} (ha : 0 ≤ a) :
    Ideal.ofBits .f32 ((biasedOf a + 1#32) <<< 23) = Ideal.exp2 (scaleExp a) := by
  obtain ⟨n, hn, hb, he⟩ := biasedOf_eq ha
  rw [hb, (scale_word_facts ⟨n, by omega⟩).1, he, exp2_int]
  refine (threshold_normal (n + 1) (by omega) (by omega)).trans ?_
  congr 2; push_cast; ring

theorem inv_word {a : EReal} (ha : 0 ≤ a) :
    Ideal.ofBits .f32 ((253#32 - biasedOf a) <<< 23) = Ideal.exp2 (-(scaleExp a)) := by
  obtain ⟨n, hn, hb, he⟩ := biasedOf_eq ha
  rw [hb, (scale_word_facts ⟨n, by omega⟩).2, he, ← EReal.coe_neg, ← Int.cast_neg, exp2_int]
  refine (threshold_normal (253 - n) (by omega) (by omega)).trans ?_
  congr 2; omega

end QFormer
-- ==== Proof.Literals.lean ====
/-
  The values of the float literals both programs write, and the vocabulary in which a two-dimensional array is read
  as a matrix.
-/
module

public import proofs.«01_k».proof.Proof.Laws
public import Idealize.ShloMosaic.Lib.Pointwise

@[expose] public section

noncomputable section

open scoped BigOperators

namespace QFormer

open Idealize.ShloMosaic

theorem lit_zero : Ideal.ofBits .f32 0x00000000#32 = 0 := by simp [Ideal.ofBits, Ideal.ieee]
theorem lit_eighth : Ideal.ofBits .f32 0x3E000000#32 = ((1 / 8 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_768 : Ideal.ofBits .f32 0x44400000#32 = ((768 : ℝ) : EReal) := by
  simp [Ideal.ofBits, Ideal.ieee, -EReal.coe_mul]; norm_num
theorem lit_448 : Ideal.ofBits .f32 0x43E00000#32 = ((448 : ℝ) : EReal) := by
  simp [Ideal.ofBits, Ideal.ieee, -EReal.coe_mul]; norm_num
theorem lit_neg448 : Ideal.ofBits .f32 0xC3E00000#32 = ((-448 : ℝ) : EReal) := by
  simp [Ideal.ofBits, Ideal.ieee, -EReal.coe_mul]; norm_num
theorem lit_126 : Ideal.ofBits .f32 0x42FC0000#32 = ((126 : ℝ) : EReal) := by
  simp [Ideal.ofBits, Ideal.ieee, -EReal.coe_mul]; norm_num
theorem lit_neg126 : Ideal.ofBits .f32 0xC2FC0000#32 = ((-126 : ℝ) : EReal) := by
  simp [Ideal.ofBits, Ideal.ieee, -EReal.coe_mul]; norm_num
theorem lit_bot : Ideal.ofBits .f32 0xFF800000#32 = ⊥ := by simp [Ideal.ofBits, Ideal.ieee]

/-- A two-dimensional array as a matrix. -/
abbrev asMat {m n : ℕ} (x : (⟨2, ![m, n]⟩ : Shape).Idx → EReal) : Mat m n := fun i j => x (ix2 i j)

end QFormer
-- ==== Proof.KSelf.lean ====
/-
  One group of four heads of the kernel's self-attention, entry by entry.
-/
module

public import proofs.«01_k».proof.Proof.Laws
public import proofs.«01_k».proof.Proof.Literals
public import proofs.«01_k».proof.Proof.Gen.KernelIdeal.Skeleton

@[expose] public section

set_option maxRecDepth 16384

noncomputable section

open scoped BigOperators

namespace Cert.KernelIdeal.Blk

open Idealize.ShloMosaic Cert.KernelIdeal Cert.KernelIdeal.Gen QFormer

/-- Row `j` of head `h` of a group, in an array of the group's four heads. -/
def slot (h : Fin 4) (j : Fin 32) : Fin 128 := ⟨h.val * 32 + j.val, by omega⟩
/-- Column `d` of head `h` of a group. -/
def gcol (h : Fin 4) (d : Fin 64) : Fin 256 := ⟨h.val * 64 + d.val, by omega⟩

/-! ### The vocabulary -/

/-- One half of a group's columns, kept on the lanes below 64. -/
def lows (t : FVec Ideal S32x128 .bf16) : FVec Ideal S32x128 .bf16 :=
  mulf t (broadcastTo S32x128 k0_pay2 broadcasts_S1x128_S32x128)
/-- The same on the lanes from 64. -/
def highs (t : FVec Ideal S32x128 .bf16) : FVec Ideal S32x128 .bf16 :=
  mulf t (broadcastTo S32x128 k0_pay3 broadcasts_S1x128_S32x128)
def zeros : FVec Ideal S32x128 .bf16 := broadcast S32x128 (Scalar.ofBits .bf16 0x0000#16)
def half0 (t : FVec Ideal S32x256 .bf16) : FVec Ideal S32x128 .bf16 := extractStridedSlice S32x128 ![0, 0] t slices_S32x256_o0_0_S32x128
def half1 (t : FVec Ideal S32x256 .bf16) : FVec Ideal S32x128 .bf16 := extractStridedSlice S32x128 ![0, 128] t slices_S32x256_o0_128_S32x128
def left (t : FVec Ideal S32x128 .bf16) : FVec Ideal S32x256 .bf16 :=
  concatenate S32x256 1 [⟨S32x128, t⟩, ⟨S32x128, zeros⟩] concatenates_S32x128_S32x128_S32x256_d1
def right (t : FVec Ideal S32x128 .bf16) : FVec Ideal S32x256 .bf16 :=
  concatenate S32x256 1 [⟨S32x128, zeros⟩, ⟨S32x128, t⟩] concatenates_S32x128_S32x128_S32x256_d1
/-- The group's columns, one copy per head, each copy kept on its own head's columns. -/
def blocks (t : FVec Ideal S32x256 .bf16) : FVec Ideal S128x256 .bf16 :=
  concatenate S128x256 0 [⟨S32x256, left (lows (half0 t))⟩, ⟨S32x256, left (highs (half0 t))⟩,
    ⟨S32x256, right (lows (half1 t))⟩, ⟨S32x256, right (highs (half1 t))⟩] concatenates_S32x256_S32x256_S32x256_S32x256_S128x256_d0

/-- Where a lane belongs to head `h`. -/
def isSeg (h : BitVec 32) : IVec S32x128 1 := cmpi .eq k0_pay5 (broadcast S32x128 h)
def dots (q : FVec Ideal S32x256 .bf16) (k : FVec Ideal S128x256 .bf16) : FVec Ideal S32x128 .f32 :=
  matmul dot_S32x256_S128x256_S32x128_1_1_0_0_n_n none q k (constant S32x128 .f32 0x00000000#32)
def segMax (h : BitVec 32) (s : FVec Ideal S32x128 .f32) : FVec Ideal S32x128 .f32 :=
  broadcastTo S32x128 (shapeCast S32x1 (shapeCast S32x1
    (multiReduction .maximumf [1] S32 (select (isSeg h) s (broadcast S32x128 (Scalar.ofBits .f32 0xFF800000#32)))
      0xFF800000#32 reduces_S32x128_S32 (.inl rfl) rfl) shapeCasts_S32_S32x1) shapeCasts_S32x1_S32x1) broadcasts_S32x1_S32x128
def segSum (h : BitVec 32) (s : FVec Ideal S32x128 .f32) : FVec Ideal S32x128 .f32 :=
  broadcastTo S32x128 (shapeCast S32x1 (shapeCast S32x1
    (multiReduction .add [1] S32 (select (isSeg h) s (broadcast S32x128 (Scalar.ofBits .f32 0x00000000#32)))
      0x00000000#32 reduces_S32x128_S32 (.inl rfl) rfl) shapeCasts_S32_S32x1) shapeCasts_S32x1_S32x1) broadcasts_S32x1_S32x128
def bySeg (a b c d : FVec Ideal S32x128 .f32) : FVec Ideal S32x128 .f32 :=
  select (isSeg 3#32) d (select (isSeg 2#32) c (select (isSeg 1#32) b a))
def maxes (s : FVec Ideal S32x128 .f32) := bySeg (segMax 0#32 s) (segMax 1#32 s) (segMax 2#32 s) (segMax 3#32 s)
def sums (s : FVec Ideal S32x128 .f32) := bySeg (segSum 0#32 s) (segSum 1#32 s) (segSum 2#32 s) (segSum 3#32 s)
/-- The score scale over the logarithm of two, a named constant of the program. -/
def scaleLog : Ideal .f32 := Named.named κ "score_scale_log2e" 0x3E38AA3B#32
def exps (s : FVec Ideal S32x128 .f32) : FVec Ideal S32x128 .f32 :=
  exp2 (mulf (subf s (maxes s)) (broadcast S32x128 scaleLog))
def weigh (e : FVec Ideal S32x128 .f32) (v : FVec Ideal S128x256 .bf16) : FVec Ideal S32x256 .bf16 :=
  truncf .bf16 (matmul dot_S32x128_S128x256_S32x256_1_0_0_1_n_n none (truncf .bf16 (divf e (sums e)) bitsLt_bf16_f32) v
    (constant S32x256 .f32 0x00000000#32)) bitsLt_bf16_f32
/-- What one group writes. -/
def selfGroup (q k v : FVec Ideal S32x256 .bf16) : FVec Ideal S32x256 .bf16 :=
  shapeCast S32x256 (weigh (exps (dots q (blocks k))) (blocks v)) shapeCasts_S32x256_S32x256

theorem lowLane (l : Fin 128) : BitVec.setWidth 32 (IntOp.cmpi CmpIPredicate.slt (BitVec.ofNat 32 l.val) 64#32)
    = if l.val < 64 then 1#32 else 0#32 := by
  revert l; decide +kernel
theorem highLane (l : Fin 128) : BitVec.setWidth 32 (IntOp.cmpi CmpIPredicate.sge (BitVec.ofNat 32 l.val) 64#32)
    = if l.val < 64 then 0#32 else 1#32 := by
  revert l; decide +kernel
theorem asFloat (b : BitVec 32) : FloatOps.sitofp (F := Ideal) FTy.f32 b = ((b.toInt : ℝ) : EReal) := rfl

theorem lows_apply (t : FVec Ideal S32x128 .bf16) (i : Fin 32) (l : Fin 128) :
    lows t (ix2 i l) = if l.val < 64 then t (ix2 i l) else 0 := by
  pointwise [lows, k0_pay2]
  rw [lowLane, asFloat]
  split_ifs <;> simp
theorem highs_apply (t : FVec Ideal S32x128 .bf16) (i : Fin 32) (l : Fin 128) :
    highs t (ix2 i l) = if l.val < 64 then 0 else t (ix2 i l) := by
  pointwise [highs, k0_pay3]
  rw [highLane, asFloat]
  split_ifs <;> simp
theorem half0_apply (t : FVec Ideal S32x256 .bf16) (i : Fin 32) (l : Fin 128) :
    half0 t (ix2 i l) = t (ix2 i ⟨l.val, by omega⟩) := by
  pointwise [half0]
theorem half1_apply (t : FVec Ideal S32x256 .bf16) (i : Fin 32) (l : Fin 128) :
    half1 t (ix2 i l) = t (ix2 i ⟨128 + l.val, by omega⟩) := by
  pointwise [half1]
theorem lit_zero16 : Ideal.ofBits .bf16 0x0000#16 = 0 := by simp [Ideal.ofBits, Ideal.ieee]
theorem zeros_apply (i : Fin 32) (l : Fin 128) : zeros (ix2 i l) = 0 := by
  rw [← lit_zero16]; rfl
theorem left_apply (t : FVec Ideal S32x128 .bf16) (i : Fin 32) (c : Fin 256) :
    left t (ix2 i c) = if h : c.val < 128 then t (ix2 i ⟨c.val, h⟩) else 0 := by
  pointwise [left]
  simp only [zeros_apply]
theorem right_apply (t : FVec Ideal S32x128 .bf16) (i : Fin 32) (c : Fin 256) :
    right t (ix2 i c) = if h : c.val < 128 then 0 else t (ix2 i ⟨c.val - 128, by omega⟩) := by
  pointwise [right]
  simp only [zeros_apply]
theorem stack_apply (a b c d : FVec Ideal S32x256 .bf16) (h : Fin 4) (j : Fin 32) (x : Fin 256) :
    concatenate S128x256 0 [⟨S32x256, a⟩, ⟨S32x256, b⟩, ⟨S32x256, c⟩, ⟨S32x256, d⟩]
      concatenates_S32x256_S32x256_S32x256_S32x256_S128x256_d0 (ix2 (slot h j) x)
      = (if h.val = 0 then a else if h.val = 1 then b else if h.val = 2 then c else d) (ix2 j x) := by
  have hs : (slot h j).val = h.val * 32 + j.val := rfl
  have e : ∀ (f : FVec Ideal S32x256 .bf16) (n : ℕ) (hn : n < 32), n = j.val → f (ix2 ⟨n, hn⟩ x) = f (ix2 j x) := by
    rintro f n hn rfl; rfl
  have h4 : h.val = 0 ∨ h.val = 1 ∨ h.val = 2 ∨ h.val = 3 := by omega
  rcases h4 with h0 | h0 | h0 | h0
  · rw [if_pos h0]
    pointwise []
    exact (dif_pos (by omega)).trans (e _ _ _ (by omega))
  · rw [if_neg (by omega), if_pos h0]
    pointwise []
    exact (dif_neg (by omega)).trans ((dif_pos (by omega)).trans (e _ _ _ (by omega)))
  · rw [if_neg (by omega), if_neg (by omega), if_pos h0]
    pointwise []
    exact (dif_neg (by omega)).trans ((dif_neg (by omega)).trans ((dif_pos (by omega)).trans (e _ _ _ (by omega))))
  · rw [if_neg (by omega), if_neg (by omega), if_neg (by omega)]
    pointwise []
    exact (dif_neg (by omega)).trans ((dif_neg (by omega)).trans ((dif_neg (by omega)).trans (e _ _ _ (by omega))))
theorem blocks_apply (t : FVec Ideal S32x256 .bf16) (h : Fin 4) (j : Fin 32) (c : Fin 256) :
    blocks t (ix2 (slot h j) c) = if c.val / 64 = h.val then t (ix2 j c) else 0 := by
  unfold blocks
  rw [stack_apply]
  have e : ∀ (n : ℕ) (hn : n < 256), n = c.val → t (ix2 j ⟨n, hn⟩) = t (ix2 j c) := by rintro n hn rfl; rfl
  split_ifs <;> simp only [left_apply, right_apply, lows_apply, highs_apply, half0_apply, half1_apply] <;> split_ifs <;>
    first | rfl | (exfalso; omega) | (apply e; omega)

theorem seg_apply (i : Fin 32) (l : Fin 128) : k0_pay5 (ix2 i l) = BitVec.ofNat 32 (l.val / 32) := by
  pointwise [k0_pay5]
  revert l; decide +kernel
theorem isSeg_apply (h : BitVec 32) (i : Fin 32) (l : Fin 128) :
    isSeg h (ix2 i l) = IntOp.cmpi .eq (BitVec.ofNat 32 (l.val / 32)) h := by
  rw [← seg_apply i l]; rfl
theorem isSeg_slot : ∀ (n h : Fin 4) (j : Fin 32),
    IntOp.cmpi CmpIPredicate.eq (BitVec.ofNat 32 ((slot h j).val / 32)) (BitVec.ofNat 32 n.val) = if h = n then 1#1 else 0#1 := by
  decide +kernel
theorem bySegSlot {α : Type} (n h : Fin 4) (i j : Fin 32) (a b : α) :
    Scalar.select (isSeg (BitVec.ofNat 32 n.val) (ix2 i (slot h j))) a b = if h = n then a else b := by
  rw [isSeg_apply, isSeg_slot, Scalar.select]
  by_cases e : h = n <;> simp [e]
theorem segSlot {α : Type} (m : BitVec 32) (n : Fin 4) (hm : m = BitVec.ofNat 32 n.val) (h : Fin 4) (i j : Fin 32) (a b : α) :
    Scalar.select (isSeg m (ix2 i (slot h j))) a b = if h = n then a else b := by
  rw [hm, bySegSlot]
theorem exists_slot (l : Fin 128) : ∃ h j, l = slot h j :=
  ⟨⟨l.val / 32, by omega⟩, ⟨l.val % 32, by omega⟩, Fin.ext (by simp only [slot]; omega)⟩
theorem slot_inj {h h' : Fin 4} {j j' : Fin 32} (e : slot h j = slot h' j') : h = h' ∧ j = j' := by
  have := congrArg Fin.val e
  simp only [slot] at this
  exact ⟨Fin.ext (by omega), Fin.ext (by omega)⟩

theorem dots_apply (q : FVec Ideal S32x256 .bf16) (k : FVec Ideal S128x256 .bf16) (i : Fin 32) (l : Fin 128) :
    dots q k (ix2 i l) = ∑ c, q (ix2 i c) * k (ix2 l c) := by
  pointwise [dots]
theorem segMax_apply (h : BitVec 32) (s : FVec Ideal S32x128 .f32) (i : Fin 32) (l : Fin 128) :
    segMax h s (ix2 i l) = rowMax fun l' => Scalar.select (isSeg h (ix2 i l')) (s (ix2 i l')) ⊥ := by
  unfold rowMax
  rw [← lit_bot]
  pointwise [segMax]
theorem segSum_apply (h : BitVec 32) (s : FVec Ideal S32x128 .f32) (i : Fin 32) (l : Fin 128) :
    segSum h s (ix2 i l) = ∑ l', Scalar.select (isSeg h (ix2 i l')) (s (ix2 i l')) 0 := by
  pointwise [segSum]
theorem bySeg_apply (a b c d : FVec Ideal S32x128 .f32) (i : Fin 32) (l : Fin 128) :
    bySeg a b c d (ix2 i l) = Scalar.select (isSeg 3#32 (ix2 i l)) (d (ix2 i l)) (Scalar.select (isSeg 2#32 (ix2 i l)) (c (ix2 i l))
      (Scalar.select (isSeg 1#32 (ix2 i l)) (b (ix2 i l)) (a (ix2 i l)))) := by
  pointwise [bySeg]
theorem segMax_slot (n : Fin 4) (s : FVec Ideal S32x128 .f32) (i : Fin 32) (l : Fin 128) :
    segMax (BitVec.ofNat 32 n.val) s (ix2 i l) = rowMax fun j => s (ix2 i (slot n j)) := by
  rw [segMax_apply]
  apply fold_max_of_embed _ _ (slot n)
  · intro j; rw [bySegSlot, if_pos rfl]
  · intro l' hl
    obtain ⟨h, j, rfl⟩ := exists_slot l'
    rw [bySegSlot, if_neg]
    rintro rfl; exact hl j rfl
theorem segSum_slot (n : Fin 4) (s : FVec Ideal S32x128 .f32) (i : Fin 32) (l : Fin 128) :
    segSum (BitVec.ofNat 32 n.val) s (ix2 i l) = ∑ j, s (ix2 i (slot n j)) := by
  rw [segSum_apply]
  apply sum_of_embed _ _ (slot n) (fun j j' e => (slot_inj e).2)
  · intro j; rw [bySegSlot, if_pos rfl]
  · intro l' hl
    obtain ⟨h, j, rfl⟩ := exists_slot l'
    rw [bySegSlot, if_neg]
    rintro rfl; exact hl j rfl
theorem bySeg_slot (f : BitVec 32 → FVec Ideal S32x128 .f32) (i : Fin 32) (h : Fin 4) (j : Fin 32) :
    bySeg (f 0#32) (f 1#32) (f 2#32) (f 3#32) (ix2 i (slot h j)) = f (BitVec.ofNat 32 h.val) (ix2 i (slot h j)) := by
  rw [bySeg_apply, segSlot 3#32 3 rfl, segSlot 2#32 2 rfl, segSlot 1#32 1 rfl]
  fin_cases h <;> rfl
theorem maxes_apply (s : FVec Ideal S32x128 .f32) (i : Fin 32) (h : Fin 4) (j : Fin 32) :
    maxes s (ix2 i (slot h j)) = rowMax fun j => s (ix2 i (slot h j)) := by
  unfold maxes; rw [bySeg_slot (fun h => segMax h s), segMax_slot]
theorem sums_apply (s : FVec Ideal S32x128 .f32) (i : Fin 32) (h : Fin 4) (j : Fin 32) :
    sums s (ix2 i (slot h j)) = ∑ j, s (ix2 i (slot h j)) := by
  unfold sums; rw [bySeg_slot (fun h => segSum h s), segSum_slot]

theorem scaleLog_eq : scaleLog = ((1 / 8 * (Real.log 2)⁻¹ : ℝ) : EReal) := IdealRules.named_const.ideal_named_scalar _ _ _ _ rfl
theorem exp2_apply' {s : Shape} (e : FVec Ideal s .f32) (i : s.Idx) : exp2 e i = Ideal.exp2 (e i) := rfl

theorem exps_apply (s : FVec Ideal S32x128 .f32) (i : Fin 32) (h : Fin 4) (j : Fin 32) :
    exps s (ix2 i (slot h j)) = expo (fun j => s (ix2 i (slot h j)) * ((1 / 8 : ℝ) : EReal)) j := by
  rw [← exp2_sub_max, ← maxes_apply s i h j, ← scaleLog_eq]
  pointwise [exps]
  rfl
theorem weigh_apply (e : FVec Ideal S32x128 .f32) (v : FVec Ideal S128x256 .bf16) (i : Fin 32) (c : Fin 256) :
    weigh e v (ix2 i c) = ∑ l, Ideal.div (e (ix2 i l)) (sums e (ix2 i l)) * v (ix2 l c) := by
  pointwise [weigh]
theorem exists_gcol (c : Fin 256) : ∃ h d, c = gcol h d :=
  ⟨⟨c.val / 64, by omega⟩, ⟨c.val % 64, by omega⟩, Fin.ext (by simp only [gcol]; omega)⟩
theorem gcol_inj {h h' : Fin 4} {j j' : Fin 64} (e : gcol h j = gcol h' j') : h = h' ∧ j = j' := by
  have := congrArg Fin.val e
  simp only [gcol] at this
  exact ⟨Fin.ext (by omega), Fin.ext (by omega)⟩
theorem gcol_div (h : Fin 4) (d : Fin 64) : (gcol h d).val / 64 = h.val := by simp only [gcol]; omega

/-- The blocks of the keys pick out one head's inner product. -/
theorem dots_blocks (q k : FVec Ideal S32x256 .bf16) (i : Fin 32) (h : Fin 4) (j : Fin 32) :
    dots q (blocks k) (ix2 i (slot h j)) = ∑ d, q (ix2 i (gcol h d)) * k (ix2 j (gcol h d)) := by
  rw [dots_apply]
  apply sum_of_embed _ _ (gcol h) (fun j j' e => (gcol_inj e).2)
  · intro d; rw [blocks_apply, if_pos (gcol_div h d)]
  · intro c hc
    obtain ⟨h', d, rfl⟩ := exists_gcol c
    rw [blocks_apply, if_neg, mul_zero]
    rw [gcol_div]
    intro e; exact hc d (by rw [Fin.ext e])

/-- A group's column in a whole row. -/
def wide (g : Fin 3) (c : Fin 256) : Fin 768 := ⟨g.val * 256 + c.val, by omega⟩
theorem headOf_wide (g : Fin 3) (h : Fin 4) (d d' : Fin 64) : hcol (headOf (wide g (gcol h d))) d' = wide g (gcol h d') := by
  apply Fin.ext; simp only [hcol, headOf, wide, gcol]; omega

/-- One group writes its columns of the self-attention's rows. -/
theorem selfGroup_apply (q k v : FVec Ideal S32x256 .bf16) (g : Fin 3) (Q K V : Mat 32 768)
    (hq : ∀ i c, q (ix2 i c) = Q i (wide g c)) (hk : ∀ i c, k (ix2 i c) = K i (wide g c)) (hv : ∀ i c, v (ix2 i c) = V i (wide g c))
    (i : Fin 32) (c : Fin 256) : selfGroup q k v (ix2 i c) = selfCtx (Q i) K V (wide g c) := by
  obtain ⟨h, d, rfl⟩ := exists_gcol c
  unfold selfGroup
  rw [shapeCast_self, weigh_apply]
  have hs : ∀ j, exps (dots q (blocks k)) (ix2 i (slot h j))
      = expo (fun j => score (Q i) (K j) (headOf (wide g (gcol h d)))) j := by
    intro j
    rw [exps_apply]
    simp only [dots_blocks, score, headDot, headOf_wide, hq, hk]
  unfold selfCtx
  apply sum_of_embed _ _ (slot h) (fun j j' e => (slot_inj e).2)
  · intro j
    rw [sums_apply, blocks_apply, if_pos (gcol_div h d), hv]
    simp only [hs]
  · intro l hl
    obtain ⟨h', j, rfl⟩ := exists_slot l
    rw [blocks_apply, if_neg, mul_zero]
    rw [gcol_div]
    intro e; exact hl j (by rw [Fin.ext e])

end Cert.KernelIdeal.Blk
-- ==== Proof.KCross.lean ====
/-
  One group of four heads of the kernel's cross-attention, entry by entry.
-/
module

public import proofs.«01_k».proof.Proof.KSelf

@[expose] public section

set_option maxRecDepth 16384

noncomputable section

open scoped BigOperators

namespace Cert.KernelIdeal.Blk

open Idealize.ShloMosaic Cert.KernelIdeal Cert.KernelIdeal.Gen QFormer

/-! ### The vocabulary -/

/-- A group's image projection: the codes' product, scaled by token and by column. -/
def imgProj (img : FVec Ideal S1x256x1408 .fp8e4m3) (w : FVec Ideal S1408x256 .fp8e4m3) (ts : FVec Ideal S256x1 .f32)
    (sc : FVec Ideal S1x256 .f32) : FVec Ideal S256x256 .f32 :=
  mulf (mulf (matmul dot_S256x1408_S1408x256_S256x256_1_0_0_1_n_n none (shapeCast S256x1408 img shapeCasts_S1x256x1408_S256x1408) w
      (constant S256x256 .f32 0x00000000#32)) (broadcastTo S256x256 ts broadcasts_S256x1_S256x256))
    (broadcastTo S256x256 (shapeCast S1x256 sc shapeCasts_S1x256_S1x256) broadcasts_S1x256_S256x256)
def imgKey (img : FVec Ideal S1x256x1408 .fp8e4m3) (w : FVec Ideal S1408x256 .fp8e4m3) (ts : FVec Ideal S256x1 .f32)
    (sc : FVec Ideal S1x256 .f32) : FVec Ideal S1x256x256 .bf16 :=
  shapeCast S1x256x256 (truncf .bf16 (imgProj img w ts sc) bitsLt_bf16_f32) shapeCasts_S256x256_S1x256x256
def imgVal (img : FVec Ideal S1x256x1408 .fp8e4m3) (w : FVec Ideal S1408x256 .fp8e4m3) (ts : FVec Ideal S256x1 .f32)
    (sc bs : FVec Ideal S1x256 .f32) : FVec Ideal S1x256x256 .bf16 :=
  shapeCast S1x256x256 (truncf .bf16 (addf (imgProj img w ts sc)
    (broadcastTo S256x256 (shapeCast S1x256 bs shapeCasts_S1x256_S1x256) broadcasts_S1x256_S256x256)) bitsLt_bf16_f32)
    shapeCasts_S256x256_S1x256x256

def laneHi : IVec S32x128 1 := xori k0_pay4 (constantI S32x128 1 1#1)
def crossDots (q : FVec Ideal S32x256 .bf16) (k : FVec Ideal S1x256x256 .bf16) : FVec Ideal S128x256 .f32 :=
  matmul dot_S128x256_S256x256_S128x256_1_1_0_0_n_n none (blocks q) (shapeCast S256x256 k shapeCasts_S1x256x256_S256x256)
    (constant S128x256 .f32 0x00000000#32)
def lastProd (q : FVec Ideal S32x256 .bf16) (k : FVec Ideal S1x256 .f32) : FVec Ideal S32x256 .f32 :=
  mulf (extf .f32 q bitsLt_bf16_f32) (broadcastTo S32x256 k broadcasts_S1x256_S32x256)
def halfSum (m : IVec S32x128 1) (t : FVec Ideal S32x128 .f32) : FVec Ideal S32x1 .f32 :=
  shapeCast S32x1 (multiReduction .add [1] S32 (select m t (broadcast S32x128 (Scalar.ofBits .f32 0x00000000#32))) 0x00000000#32
    reduces_S32x128_S32 (.inl rfl) rfl) shapeCasts_S32_S32x1
def halfF0 (t : FVec Ideal S32x256 .f32) : FVec Ideal S32x128 .f32 := extractStridedSlice S32x128 ![0, 0] t slices_S32x256_o0_0_S32x128
def halfF1 (t : FVec Ideal S32x256 .f32) : FVec Ideal S32x128 .f32 := extractStridedSlice S32x128 ![0, 128] t slices_S32x256_o0_128_S32x128
/-- The four heads' products with the last image token's key, one column. -/
def lastDots (q : FVec Ideal S32x256 .bf16) (k : FVec Ideal S1x256 .f32) : FVec Ideal S128x1 .f32 :=
  concatenate S128x1 0 [⟨S32x1, halfSum k0_pay4 (halfF0 (lastProd q k))⟩, ⟨S32x1, halfSum laneHi (halfF0 (lastProd q k))⟩,
    ⟨S32x1, halfSum k0_pay4 (halfF1 (lastProd q k))⟩, ⟨S32x1, halfSum laneHi (halfF1 (lastProd q k))⟩]
    concatenates_S32x1_S32x1_S32x1_S32x1_S128x1_d0
def top (s : FVec Ideal S128x256 .f32) (l : FVec Ideal S128x1 .f32) : FVec Ideal S128x1 .f32 :=
  maximumf (shapeCast S128x1 (multiReduction .maximumf [1] S128 s 0xFF800000#32 reduces_S128x256_S128 (.inl rfl) rfl)
    shapeCasts_S128_S128x1) l
def mainExps (s : FVec Ideal S128x256 .f32) (m : FVec Ideal S128x1 .f32) : FVec Ideal S128x256 .f32 :=
  exp2 (mulf (subf s (broadcastTo S128x256 m broadcasts_S128x1_S128x256)) (broadcast S128x256 scaleLog))
def lastExp (l m : FVec Ideal S128x1 .f32) : FVec Ideal S128x1 .f32 := exp2 (mulf (subf l m) (broadcast S128x1 scaleLog))
def recip (e : FVec Ideal S128x256 .f32) (l : FVec Ideal S128x1 .f32) : FVec Ideal S128x1 .f32 :=
  divf (broadcast S128x1 (Scalar.ofBits .f32 0x3F800000#32))
    (addf (shapeCast S128x1 (multiReduction .add [1] S128 e 0x00000000#32 reduces_S128x256_S128 (.inl rfl) rfl) shapeCasts_S128_S128x1) l)
def mainOut (e : FVec Ideal S128x256 .f32) (r : FVec Ideal S128x1 .f32) (v : FVec Ideal S1x256x256 .bf16) : FVec Ideal S128x256 .f32 :=
  matmul dot_S128x256_S256x256_S128x256_1_0_0_1_n_n none (truncf .bf16 (mulf e (broadcastTo S128x256 r broadcasts_S128x1_S128x256)) bitsLt_bf16_f32)
    (shapeCast S256x256 v shapeCasts_S1x256x256_S256x256) (constant S128x256 .f32 0x00000000#32)
def lastProb (l r : FVec Ideal S128x1 .f32) : FVec Ideal S128x1 .f32 :=
  extf .f32 (truncf .bf16 (mulf l r) bitsLt_bf16_f32) bitsLt_bf16_f32
def spread (p : FVec Ideal S32x1 .f32) : FVec Ideal S32x128 .f32 :=
  broadcastTo S32x128 (shapeCast S32x1 p shapeCasts_S32x1_S32x1) broadcasts_S32x1_S32x128
def join (o o' : FVec Ideal S32x128 .f32) (p p' : FVec Ideal S32x1 .f32) (v : FVec Ideal S1x128 .f32) : FVec Ideal S32x128 .bf16 :=
  shapeCast S32x128 (truncf .bf16 (addf (select k0_pay4 o o')
    (mulf (select k0_pay4 (spread p) (spread p')) (broadcastTo S32x128 v broadcasts_S1x128_S32x128))) bitsLt_bf16_f32)
    shapeCasts_S32x128_S32x128
def join0 (o : FVec Ideal S128x256 .f32) (p : FVec Ideal S128x1 .f32) (v : FVec Ideal S1x128 .f32) : FVec Ideal S32x128 .bf16 :=
  join (extractStridedSlice S32x128 ![0, 0] o slices_S128x256_o0_0_S32x128) (extractStridedSlice S32x128 ![32, 0] o slices_S128x256_o32_0_S32x128)
    (extractStridedSlice S32x1 ![0, 0] p slices_S128x1_o0_0_S32x1) (extractStridedSlice S32x1 ![32, 0] p slices_S128x1_o32_0_S32x1) v
def join1 (o : FVec Ideal S128x256 .f32) (p : FVec Ideal S128x1 .f32) (v : FVec Ideal S1x128 .f32) : FVec Ideal S32x128 .bf16 :=
  join (extractStridedSlice S32x128 ![64, 128] o slices_S128x256_o64_128_S32x128) (extractStridedSlice S32x128 ![96, 128] o slices_S128x256_o96_128_S32x128)
    (extractStridedSlice S32x1 ![64, 0] p slices_S128x1_o64_0_S32x1) (extractStridedSlice S32x1 ![96, 0] p slices_S128x1_o96_0_S32x1) v

/-- A group's scores, exponentials and their reciprocal sum. -/
def cTop (q : FVec Ideal S32x256 .bf16) (k : FVec Ideal S1x256x256 .bf16) (kx : FVec Ideal S1x256 .f32) : FVec Ideal S128x1 .f32 :=
  top (crossDots q k) (lastDots q kx)
def cExps (q : FVec Ideal S32x256 .bf16) (k : FVec Ideal S1x256x256 .bf16) (kx : FVec Ideal S1x256 .f32) : FVec Ideal S128x256 .f32 :=
  mainExps (crossDots q k) (cTop q k kx)
def cLast (q : FVec Ideal S32x256 .bf16) (k : FVec Ideal S1x256x256 .bf16) (kx : FVec Ideal S1x256 .f32) : FVec Ideal S128x1 .f32 :=
  lastExp (lastDots q kx) (cTop q k kx)
def cRecip (q : FVec Ideal S32x256 .bf16) (k : FVec Ideal S1x256x256 .bf16) (kx : FVec Ideal S1x256 .f32) : FVec Ideal S128x1 .f32 :=
  recip (cExps q k kx) (cLast q k kx)
def cOut (q : FVec Ideal S32x256 .bf16) (k v : FVec Ideal S1x256x256 .bf16) (kx : FVec Ideal S1x256 .f32) : FVec Ideal S128x256 .f32 :=
  mainOut (cExps q k kx) (cRecip q k kx) v
def cProb (q : FVec Ideal S32x256 .bf16) (k : FVec Ideal S1x256x256 .bf16) (kx : FVec Ideal S1x256 .f32) : FVec Ideal S128x1 .f32 :=
  lastProb (cLast q k kx) (cRecip q k kx)
/-- What one group writes to the left half of its columns, and to the right half. -/
def crossLeft (q : FVec Ideal S32x256 .bf16) (k v : FVec Ideal S1x256x256 .bf16) (kx : FVec Ideal S1x256 .f32) (vx : FVec Ideal S1x128 .f32) :
    FVec Ideal S32x128 .bf16 := join0 (cOut q k v kx) (cProb q k kx) vx
def crossRight (q : FVec Ideal S32x256 .bf16) (k v : FVec Ideal S1x256x256 .bf16) (kx : FVec Ideal S1x256 .f32) (vx : FVec Ideal S1x128 .f32) :
    FVec Ideal S32x128 .bf16 := join1 (cOut q k v kx) (cProb q k kx) vx

/-! ### What they hold -/

theorem imgProj_apply (img : FVec Ideal S1x256x1408 .fp8e4m3) (w : FVec Ideal S1408x256 .fp8e4m3) (ts : FVec Ideal S256x1 .f32)
    (sc : FVec Ideal S1x256 .f32) (j c : Fin 256) :
    imgProj img w ts sc (ix2 j c) = (∑ i, img (ix3 0 j i) * w (ix2 i c)) * ts (ix2 j 0) * sc (ix2 0 c) := by
  pointwise [imgProj]
theorem imgKey_apply (img : FVec Ideal S1x256x1408 .fp8e4m3) (w : FVec Ideal S1408x256 .fp8e4m3) (ts : FVec Ideal S256x1 .f32)
    (sc : FVec Ideal S1x256 .f32) (j c : Fin 256) : imgKey img w ts sc (ix3 0 j c) = imgProj img w ts sc (ix2 j c) := by
  pointwise [imgKey]
theorem imgVal_apply (img : FVec Ideal S1x256x1408 .fp8e4m3) (w : FVec Ideal S1408x256 .fp8e4m3) (ts : FVec Ideal S256x1 .f32)
    (sc bs : FVec Ideal S1x256 .f32) (j c : Fin 256) :
    imgVal img w ts sc bs (ix3 0 j c) = imgProj img w ts sc (ix2 j c) + bs (ix2 0 c) := by
  pointwise [imgVal]
theorem crossDots_apply' (q : FVec Ideal S32x256 .bf16) (k : FVec Ideal S1x256x256 .bf16) (l : Fin 128) (j : Fin 256) :
    crossDots q k (ix2 l j) = ∑ c, blocks q (ix2 l c) * k (ix3 0 j c) := by
  pointwise [crossDots]
theorem lastProd_apply (q : FVec Ideal S32x256 .bf16) (k : FVec Ideal S1x256 .f32) (i : Fin 32) (c : Fin 256) :
    lastProd q k (ix2 i c) = q (ix2 i c) * k (ix2 0 c) := by
  pointwise [lastProd]
theorem halfSum_apply (m : IVec S32x128 1) (t : FVec Ideal S32x128 .f32) (i : Fin 32) :
    halfSum m t (ix2 i 0) = ∑ l, Scalar.select (m (ix2 i l)) (t (ix2 i l)) 0 := by
  pointwise [halfSum]
theorem halfF0_apply (t : FVec Ideal S32x256 .f32) (i : Fin 32) (l : Fin 128) : halfF0 t (ix2 i l) = t (ix2 i ⟨l.val, by omega⟩) := by
  pointwise [halfF0]
theorem halfF1_apply (t : FVec Ideal S32x256 .f32) (i : Fin 32) (l : Fin 128) : halfF1 t (ix2 i l) = t (ix2 i ⟨128 + l.val, by omega⟩) := by
  pointwise [halfF1]
theorem laneLo_apply (i : Fin 32) (l : Fin 128) : k0_pay4 (ix2 i l) = if l.val < 64 then 1#1 else 0#1 := by
  pointwise [k0_pay4]
  revert l; decide +kernel
theorem laneHi_apply (i : Fin 32) (l : Fin 128) : laneHi (ix2 i l) = if l.val < 64 then 0#1 else 1#1 := by
  pointwise [laneHi]
  rw [laneLo_apply]
  split_ifs <;> rfl
theorem stackCol_apply (a b c d : FVec Ideal S32x1 .f32) (h : Fin 4) (j : Fin 32) :
    concatenate S128x1 0 [⟨S32x1, a⟩, ⟨S32x1, b⟩, ⟨S32x1, c⟩, ⟨S32x1, d⟩]
      concatenates_S32x1_S32x1_S32x1_S32x1_S128x1_d0 (ix2 (slot h j) 0)
      = (if h.val = 0 then a else if h.val = 1 then b else if h.val = 2 then c else d) (ix2 j 0) := by
  have hs : (slot h j).val = h.val * 32 + j.val := rfl
  have e : ∀ (f : FVec Ideal S32x1 .f32) (n : ℕ) (hn : n < 32), n = j.val → f (ix2 ⟨n, hn⟩ 0) = f (ix2 j 0) := by
    rintro f n hn rfl; rfl
  have h4 : h.val = 0 ∨ h.val = 1 ∨ h.val = 2 ∨ h.val = 3 := by omega
  rcases h4 with h0 | h0 | h0 | h0
  · rw [if_pos h0]
    pointwise []
    exact (dif_pos (by omega)).trans (e _ _ _ (by omega))
  · rw [if_neg (by omega), if_pos h0]
    pointwise []
    exact (dif_neg (by omega)).trans ((dif_pos (by omega)).trans (e _ _ _ (by omega)))
  · rw [if_neg (by omega), if_neg (by omega), if_pos h0]
    pointwise []
    exact (dif_neg (by omega)).trans ((dif_neg (by omega)).trans ((dif_pos (by omega)).trans (e _ _ _ (by omega))))
  · rw [if_neg (by omega), if_neg (by omega), if_neg (by omega)]
    pointwise []
    exact (dif_neg (by omega)).trans ((dif_neg (by omega)).trans ((dif_neg (by omega)).trans (e _ _ _ (by omega))))
theorem top_apply (s : FVec Ideal S128x256 .f32) (l : FVec Ideal S128x1 .f32) (z : Fin 128) :
    top s l (ix2 z 0) = max (rowMax fun j => s (ix2 z j)) (l (ix2 z 0)) := by
  unfold rowMax
  rw [← lit_bot]
  pointwise [top]
theorem mainExps_apply (s : FVec Ideal S128x256 .f32) (m : FVec Ideal S128x1 .f32) (z : Fin 128) (j : Fin 256) :
    mainExps s m (ix2 z j) = Ideal.exp2 ((s (ix2 z j) - m (ix2 z 0)) * scaleLog) := by
  pointwise [mainExps]
  rfl
theorem lastExp_apply (l m : FVec Ideal S128x1 .f32) (z : Fin 128) :
    lastExp l m (ix2 z 0) = Ideal.exp2 ((l (ix2 z 0) - m (ix2 z 0)) * scaleLog) := by
  pointwise [lastExp]
  rfl
theorem recip_apply (e : FVec Ideal S128x256 .f32) (l : FVec Ideal S128x1 .f32) (z : Fin 128) :
    recip e l (ix2 z 0) = Ideal.div ((1 : ℝ) : EReal) ((∑ j, e (ix2 z j)) + l (ix2 z 0)) := by
  rw [← lit_one]
  pointwise [recip]
theorem mainOut_apply (e : FVec Ideal S128x256 .f32) (r : FVec Ideal S128x1 .f32) (v : FVec Ideal S1x256x256 .bf16) (z : Fin 128) (c : Fin 256) :
    mainOut e r v (ix2 z c) = ∑ j, (e (ix2 z j) * r (ix2 z 0)) * v (ix3 0 j c) := by
  pointwise [mainOut]
theorem lastProb_apply (l r : FVec Ideal S128x1 .f32) (z : Fin 128) : lastProb l r (ix2 z 0) = l (ix2 z 0) * r (ix2 z 0) := by
  pointwise [lastProb]
theorem join_apply (o o' : FVec Ideal S32x128 .f32) (p p' : FVec Ideal S32x1 .f32) (v : FVec Ideal S1x128 .f32) (i : Fin 32) (l : Fin 128) :
    join o o' p p' v (ix2 i l) = Scalar.select (k0_pay4 (ix2 i l)) (o (ix2 i l)) (o' (ix2 i l))
      + Scalar.select (k0_pay4 (ix2 i l)) (p (ix2 i 0)) (p' (ix2 i 0)) * v (ix2 0 l) := by
  pointwise [join, spread]
theorem slot0 (i : Fin 32) : slot 0 i = ⟨i.val, by omega⟩ := Fin.ext (by simp [slot])
theorem slot1 (i : Fin 32) : slot 1 i = ⟨32 + i.val, by omega⟩ := Fin.ext (by simp [slot])
theorem slot2 (i : Fin 32) : slot 2 i = ⟨64 + i.val, by omega⟩ := Fin.ext (by simp [slot])
theorem slot3 (i : Fin 32) : slot 3 i = ⟨96 + i.val, by omega⟩ := Fin.ext (by simp [slot])
theorem join0_apply (o : FVec Ideal S128x256 .f32) (p : FVec Ideal S128x1 .f32) (v : FVec Ideal S1x128 .f32) (i : Fin 32) (l : Fin 128) :
    join0 o p v (ix2 i l) = if l.val < 64 then o (ix2 (slot 0 i) ⟨l.val, by omega⟩) + p (ix2 (slot 0 i) 0) * v (ix2 0 l)
      else o (ix2 (slot 1 i) ⟨l.val, by omega⟩) + p (ix2 (slot 1 i) 0) * v (ix2 0 l) := by
  unfold join0
  rw [join_apply, laneLo_apply]
  rw [slot0, slot1]
  pointwise []
  split_ifs <;> rfl
theorem join1_apply (o : FVec Ideal S128x256 .f32) (p : FVec Ideal S128x1 .f32) (v : FVec Ideal S1x128 .f32) (i : Fin 32) (l : Fin 128) :
    join1 o p v (ix2 i l) = if l.val < 64 then o (ix2 (slot 2 i) ⟨128 + l.val, by omega⟩) + p (ix2 (slot 2 i) 0) * v (ix2 0 l)
      else o (ix2 (slot 3 i) ⟨128 + l.val, by omega⟩) + p (ix2 (slot 3 i) 0) * v (ix2 0 l) := by
  unfold join1
  rw [join_apply, laneLo_apply]
  rw [slot2, slot3]
  pointwise []
  split_ifs <;> rfl

theorem crossDots_apply (q : FVec Ideal S32x256 .bf16) (k : FVec Ideal S1x256x256 .bf16) (h : Fin 4) (i : Fin 32) (j : Fin 256) :
    crossDots q k (ix2 (slot h i) j) = ∑ d, q (ix2 i (gcol h d)) * k (ix3 0 j (gcol h d)) := by
  rw [crossDots_apply']
  apply sum_of_embed _ _ (gcol h) (fun j j' e => (gcol_inj e).2)
  · intro d; rw [blocks_apply, if_pos (gcol_div h d)]
  · intro c hc
    obtain ⟨h', d, rfl⟩ := exists_gcol c
    rw [blocks_apply, if_neg, zero_mul]
    rw [gcol_div]
    intro e; exact hc d (by rw [Fin.ext e])

/-- A sum over 128 lanes of which only the first 64 count, or only the others. -/
theorem sum_low (f : Fin 128 → EReal) : (∑ l : Fin 128, Scalar.select (if l.val < 64 then 1#1 else 0#1) (f l) 0)
    = ∑ d : Fin 64, f ⟨d.val, by omega⟩ := by
  apply sum_of_embed _ _ (fun d : Fin 64 => (⟨d.val, by omega⟩ : Fin 128)) (fun a b e => Fin.ext (by simpa using congrArg Fin.val e))
  · intro d; rw [if_pos d.isLt]; rfl
  · intro l hl; rw [if_neg]; · rfl
    intro h; exact hl ⟨l.val, h⟩ rfl
theorem sum_high (f : Fin 128 → EReal) : (∑ l : Fin 128, Scalar.select (if l.val < 64 then 0#1 else 1#1) (f l) 0)
    = ∑ d : Fin 64, f ⟨64 + d.val, by omega⟩ := by
  apply sum_of_embed _ _ (fun d : Fin 64 => (⟨64 + d.val, by omega⟩ : Fin 128)) (fun a b e => Fin.ext (by have := congrArg Fin.val e; simp only at this; omega))
  · intro d; rw [if_neg (by simp)]; rfl
  · intro l hl; rw [if_pos]; · rfl
    by_contra h; exact hl ⟨l.val - 64, by omega⟩ (Fin.ext (by simp only; omega))

theorem lastDots_apply (q : FVec Ideal S32x256 .bf16) (k : FVec Ideal S1x256 .f32) (h : Fin 4) (i : Fin 32) :
    lastDots q k (ix2 (slot h i) 0) = ∑ d, q (ix2 i (gcol h d)) * k (ix2 0 (gcol h d)) := by
  unfold lastDots
  rw [stackCol_apply]
  have e : ∀ (n : ℕ) (hn : n < 256) (d : Fin 64), n = h.val * 64 + d.val →
      q (ix2 i ⟨n, hn⟩) * k (ix2 0 ⟨n, hn⟩) = q (ix2 i (gcol h d)) * k (ix2 0 (gcol h d)) := by
    rintro n hn d rfl; rfl
  have h4 : h.val = 0 ∨ h.val = 1 ∨ h.val = 2 ∨ h.val = 3 := by omega
  rcases h4 with h0 | h0 | h0 | h0
  · rw [if_pos h0, halfSum_apply]
    simp only [laneLo_apply, halfF0_apply, lastProd_apply]
    rw [sum_low (fun l => q (ix2 i ⟨l.val, by omega⟩) * k (ix2 0 ⟨l.val, by omega⟩))]
    exact Finset.sum_congr rfl fun d _ => e _ _ _ (by simp only; omega)
  · rw [if_neg (by omega), if_pos h0, halfSum_apply]
    simp only [laneHi_apply, halfF0_apply, lastProd_apply]
    rw [sum_high (fun l => q (ix2 i ⟨l.val, by omega⟩) * k (ix2 0 ⟨l.val, by omega⟩))]
    exact Finset.sum_congr rfl fun d _ => e _ _ _ (by simp only; omega)
  · rw [if_neg (by omega), if_neg (by omega), if_pos h0, halfSum_apply]
    simp only [laneLo_apply, halfF1_apply, lastProd_apply]
    rw [sum_low (fun l => q (ix2 i ⟨128 + l.val, by omega⟩) * k (ix2 0 ⟨128 + l.val, by omega⟩))]
    exact Finset.sum_congr rfl fun d _ => e _ _ _ (by simp only; omega)
  · rw [if_neg (by omega), if_neg (by omega), if_neg (by omega), halfSum_apply]
    simp only [laneHi_apply, halfF1_apply, lastProd_apply]
    rw [sum_high (fun l => q (ix2 i ⟨128 + l.val, by omega⟩) * k (ix2 0 ⟨128 + l.val, by omega⟩))]
    exact Finset.sum_congr rfl fun d _ => e _ _ _ (by simp only; omega)

theorem withLast_castSucc (A : Mat 256 768) (l : Row 768) (j : Fin 256) : withLast A l j.castSucc = A j := by
  unfold withLast; rw [dif_pos (by simp)]; rfl
theorem withLast_last (A : Mat 256 768) (l : Row 768) : withLast A l (Fin.last 256) = l := by
  unfold withLast; rw [dif_neg (by simp)]

section
variable (q : FVec Ideal S32x256 .bf16) (k v : FVec Ideal S1x256x256 .bf16) (kx : FVec Ideal S1x256 .f32) (g : Fin 3)
  (Q : Mat 32 768) (K V : Mat 256 768) (kl vl : Row 768)
  (hq : ∀ i c, q (ix2 i c) = Q i (wide g c)) (hk : ∀ j c, k (ix3 0 j c) = K j (wide g c)) (hv : ∀ j c, v (ix3 0 j c) = V j (wide g c))
  (hkx : ∀ c, kx (ix2 0 c) = kl (wide g c))
include hq hk hkx

theorem cTop_apply (i : Fin 32) (h : Fin 4) (d : Fin 64) :
    cTop q k kx (ix2 (slot h i) 0) = rowMax fun j => headDot (Q i) (withLast K kl j) (headOf (wide g (gcol h d))) := by
  unfold cTop
  rw [top_apply, rowMax_succ (n := 256)]
  simp only [crossDots_apply, lastDots_apply, withLast_castSucc, withLast_last, headDot, headOf_wide, hq, hk, hkx]
theorem cExps_apply (i : Fin 32) (h : Fin 4) (d : Fin 64) (j : Fin 256) :
    cExps q k kx (ix2 (slot h i) j) = expo (fun j => score (Q i) (withLast K kl j) (headOf (wide g (gcol h d)))) j.castSucc := by
  unfold cExps score
  rw [mainExps_apply, cTop_apply q k kx g Q K kl hq hk hkx i h d, scaleLog_eq, ← exp2_sub_max]
  simp only [crossDots_apply, withLast_castSucc, headDot, headOf_wide, hq, hk]
theorem cLast_apply (i : Fin 32) (h : Fin 4) (d : Fin 64) :
    cLast q k kx (ix2 (slot h i) 0) = expo (fun j => score (Q i) (withLast K kl j) (headOf (wide g (gcol h d)))) (Fin.last 256) := by
  unfold cLast score
  rw [lastExp_apply, cTop_apply q k kx g Q K kl hq hk hkx i h d, scaleLog_eq, ← exp2_sub_max]
  simp only [lastDots_apply, withLast_last, headDot, headOf_wide, hq, hkx]
theorem cRecip_apply (i : Fin 32) (h : Fin 4) (d : Fin 64) :
    cRecip q k kx (ix2 (slot h i) 0)
      = Ideal.div 1 (∑ j, expo (fun j => score (Q i) (withLast K kl j) (headOf (wide g (gcol h d)))) j) := by
  unfold cRecip
  rw [recip_apply, Fin.sum_univ_castSucc (n := 256), EReal.coe_one]
  simp only [cExps_apply q k kx g Q K kl hq hk hkx i h d, cLast_apply q k kx g Q K kl hq hk hkx i h d]
include hv
theorem cross_apply (i : Fin 32) (h : Fin 4) (d : Fin 64) :
    cOut q k v kx (ix2 (slot h i) (gcol h d)) + cProb q k kx (ix2 (slot h i) 0) * vl (wide g (gcol h d))
      = crossCtx (Q i) (withLast K kl) (withLast V vl) (wide g (gcol h d)) := by
  unfold cOut cProb crossCtx
  rw [mainOut_apply, lastProb_apply, Fin.sum_univ_castSucc (n := 256), withLast_last]
  simp only [cExps_apply q k kx g Q K kl hq hk hkx i h d, cLast_apply q k kx g Q K kl hq hk hkx i h d,
    cRecip_apply q k kx g Q K kl hq hk hkx i h d, withLast_castSucc, hv]

/-- One group writes its columns of the cross-attention's rows. -/
theorem crossLeft_apply (vx : FVec Ideal S1x128 .f32) (hvx : ∀ l : Fin 128, vx (ix2 0 l) = vl (wide g ⟨l.val, by omega⟩))
    (i : Fin 32) (l : Fin 128) :
    crossLeft q k v kx vx (ix2 i l) = crossCtx (Q i) (withLast K kl) (withLast V vl) (wide g ⟨l.val, by omega⟩) := by
  unfold crossLeft
  rw [join0_apply, hvx]
  split_ifs with hl
  · have e : (⟨l.val, by omega⟩ : Fin 256) = gcol 0 ⟨l.val, hl⟩ := Fin.ext (by simp [gcol])
    rw [e]; exact cross_apply q k v kx g Q K V kl vl hq hk hv hkx i 0 _
  · have e : (⟨l.val, by omega⟩ : Fin 256) = gcol 1 ⟨l.val - 64, by omega⟩ := Fin.ext (by simp [gcol]; omega)
    rw [e]; exact cross_apply q k v kx g Q K V kl vl hq hk hv hkx i 1 _
theorem crossRight_apply (vx : FVec Ideal S1x128 .f32) (hvx : ∀ l : Fin 128, vx (ix2 0 l) = vl (wide g ⟨128 + l.val, by omega⟩))
    (i : Fin 32) (l : Fin 128) :
    crossRight q k v kx vx (ix2 i l) = crossCtx (Q i) (withLast K kl) (withLast V vl) (wide g ⟨128 + l.val, by omega⟩) := by
  unfold crossRight
  rw [join1_apply, hvx]
  split_ifs with hl
  · have e : (⟨128 + l.val, by omega⟩ : Fin 256) = gcol 2 ⟨l.val, hl⟩ := Fin.ext (by simp [gcol])
    rw [e]; exact cross_apply q k v kx g Q K V kl vl hq hk hv hkx i 2 _
  · have e : (⟨128 + l.val, by omega⟩ : Fin 256) = gcol 3 ⟨l.val - 64, by omega⟩ := Fin.ext (by simp [gcol]; omega)
    rw [e]; exact cross_apply q k v kx g Q K V kl vl hq hk hv hkx i 3 _
end

end Cert.KernelIdeal.Blk
-- ==== Proof.KMem.lean ====
/-
  The buffers and values one run of the kernel's body is given, and the contents the run gives the buffers it fills.
-/
module

public import proofs.«01_k».proof.Proof.Gen.KernelIdeal.Frame.RunA

@[expose] public section

noncomputable section

namespace Cert.KernelIdeal.Blk

open Idealize.ShloMosaic Cert.KernelIdeal Cert.KernelIdeal.Gen

/-- What one run of the body is given: its buffers, and the values its inputs hold. -/
structure Mem where
  c : Dev nD
  i : grid0.Coords
  arg1 : Memref sig .tc .vmem S256x768 .bf16
  harg1 : arg1.IsWhole
  arg2 : Memref sig .tc .vmem S8x256x1408 .fp8e4m3
  harg2 : arg2.IsWhole
  arg3 : Memref sig .tc .vmem S8x257 .f32
  harg3 : arg3.IsWhole
  arg4 : Memref sig .tc .vmem S8x768 .f32
  harg4 : arg4.IsWhole
  arg5 : Memref sig .tc .vmem S8x768 .f32
  harg5 : arg5.IsWhole
  arg6 : Memref sig .tc .vmem S768x768 .bf16
  harg6 : arg6.IsWhole
  arg7 : Memref sig .tc .vmem S768x768 .bf16
  harg7 : arg7.IsWhole
  arg8 : Memref sig .tc .vmem S768x768 .bf16
  harg8 : arg8.IsWhole
  arg9 : Memref sig .tc .vmem S768x768 .bf16
  harg9 : arg9.IsWhole
  arg10 : Memref sig .tc .vmem S1x768 .f32
  harg10 : arg10.IsWhole
  arg11 : Memref sig .tc .vmem S1x768 .f32
  harg11 : arg11.IsWhole
  arg12 : Memref sig .tc .vmem S1x768 .f32
  harg12 : arg12.IsWhole
  arg13 : Memref sig .tc .vmem S1x768 .f32
  harg13 : arg13.IsWhole
  arg14 : Memref sig .tc .vmem S1x768 .f32
  harg14 : arg14.IsWhole
  arg15 : Memref sig .tc .vmem S768x768 .bf16
  harg15 : arg15.IsWhole
  arg16 : Memref sig .tc .vmem S768x768 .bf16
  harg16 : arg16.IsWhole
  arg17 : Memref sig .tc .vmem S1x768 .f32
  harg17 : arg17.IsWhole
  arg18 : Memref sig .tc .vmem S1x768 .f32
  harg18 : arg18.IsWhole
  arg19 : Memref sig .tc .vmem S1408x768 .fp8e4m3
  harg19 : arg19.IsWhole
  arg20 : Memref sig .tc .vmem S1408x768 .fp8e4m3
  harg20 : arg20.IsWhole
  arg21 : Memref sig .tc .vmem S1x768 .f32
  harg21 : arg21.IsWhole
  arg22 : Memref sig .tc .vmem S1x768 .f32
  harg22 : arg22.IsWhole
  arg23 : Memref sig .tc .vmem S1x768 .f32
  harg23 : arg23.IsWhole
  arg24 : Memref sig .tc .vmem S1x768 .f32
  harg24 : arg24.IsWhole
  arg25 : Memref sig .tc .vmem S1x768 .f32
  harg25 : arg25.IsWhole
  arg26 : Memref sig .tc .vmem S768x3072 .fp8e4m3
  harg26 : arg26.IsWhole
  arg27 : Memref sig .tc .vmem S1x3072 .f32
  harg27 : arg27.IsWhole
  arg28 : Memref sig .tc .vmem S1x3072 .f32
  harg28 : arg28.IsWhole
  arg29 : Memref sig .tc .vmem S3072x768 .fp8e4m3
  harg29 : arg29.IsWhole
  arg30 : Memref sig .tc .vmem S1x768 .f32
  harg30 : arg30.IsWhole
  arg31 : Memref sig .tc .vmem S1x768 .f32
  harg31 : arg31.IsWhole
  arg32 : Memref sig .tc .vmem S1x768 .f32
  harg32 : arg32.IsWhole
  arg33 : Memref sig .tc .vmem S1x768 .f32
  harg33 : arg33.IsWhole
  arg34 : Memref sig .tc .vmem S256x768 .bf16
  harg34 : arg34.IsWhole
  arg35 : Memref sig .tc .vmem S256x768 .fp8e4m3
  harg35 : arg35.IsWhole
  arg36 : Memref sig .tc .vmem S8x32 .f32
  harg36 : arg36.IsWhole
  arg37 : Memref sig .tc .vmem S256x3072 .fp8e4m3
  harg37 : arg37.IsWhole
  arg38 : Memref sig .tc .vmem S8x32 .f32
  harg38 : arg38.IsWhole
  arg39 : Memref sig .tc .vmem S256x768 .bf16
  harg39 : arg39.IsWhole
  arg40 : Memref sig .tc .vmem S256x768 .bf16
  harg40 : arg40.IsWhole
  arg41 : Memref sig .tc .vmem S256x768 .bf16
  harg41 : arg41.IsWhole
  arg42 : Memref sig .tc .vmem S256x768 .bf16
  harg42 : arg42.IsWhole
  arg43 : Memref sig .tc .vmem S256x768 .f32
  harg43 : arg43.IsWhole
  arg44 : Memref sig .tc .vmem S256x768 .bf16
  harg44 : arg44.IsWhole
  arg45 : Memref sig .tc .vmem S2x256x768 .bf16
  harg45 : arg45.IsWhole
  arg46 : Memref sig .tc .vmem S2x256x768 .bf16
  harg46 : arg46.IsWhole
  arg47 : Memref sig .tc .vmem S256x3072 .f32
  harg47 : arg47.IsWhole
  x0 : Vec Ideal S256x768 .bf16
  x1 : Vec Ideal S8x256x1408 .fp8e4m3
  x2 : Vec Ideal S8x257 .f32
  x3 : Vec Ideal S8x768 .f32
  x4 : Vec Ideal S8x768 .f32
  x5 : Vec Ideal S768x768 .bf16
  x6 : Vec Ideal S768x768 .bf16
  x7 : Vec Ideal S768x768 .bf16
  x8 : Vec Ideal S768x768 .bf16
  x9 : Vec Ideal S1x768 .f32
  x10 : Vec Ideal S1x768 .f32
  x11 : Vec Ideal S1x768 .f32
  x12 : Vec Ideal S1x768 .f32
  x13 : Vec Ideal S1x768 .f32
  x14 : Vec Ideal S768x768 .bf16
  x15 : Vec Ideal S768x768 .bf16
  x16 : Vec Ideal S1x768 .f32
  x17 : Vec Ideal S1x768 .f32
  x18 : Vec Ideal S1408x768 .fp8e4m3
  x19 : Vec Ideal S1408x768 .fp8e4m3
  x20 : Vec Ideal S1x768 .f32
  x21 : Vec Ideal S1x768 .f32
  x22 : Vec Ideal S1x768 .f32
  x23 : Vec Ideal S1x768 .f32
  x24 : Vec Ideal S1x768 .f32
  x25 : Vec Ideal S768x3072 .fp8e4m3
  x26 : Vec Ideal S1x3072 .f32
  x27 : Vec Ideal S1x3072 .f32
  x28 : Vec Ideal S3072x768 .fp8e4m3
  x29 : Vec Ideal S1x768 .f32
  x30 : Vec Ideal S1x768 .f32
  x31 : Vec Ideal S1x768 .f32
  x32 : Vec Ideal S1x768 .f32

variable (R : Mem)

/-- What the buffer of the queries is filled with. -/
def Mem.qL : List (View.Piece (Elt Ideal) S256x768 .bf16) :=
  kernelRun0_A.sl.HS0_1 (F := Ideal) R.c R.arg1 R.harg1 R.arg6 R.harg6 R.arg10 R.harg10 R.x0 R.x5 R.x9
/-- The keys. -/
def Mem.kL : List (View.Piece (Elt Ideal) S256x768 .bf16) :=
  kernelRun0_A.sl.HS1_1 (F := Ideal) R.c R.arg1 R.harg1 R.arg7 R.harg7 R.x0 R.x6
/-- The values. -/
def Mem.vL : List (View.Piece (Elt Ideal) S256x768 .bf16) :=
  kernelRun0_A.sl.HS2_1 (F := Ideal) R.c R.arg1 R.harg1 R.arg8 R.harg8 R.arg11 R.harg11 R.x0 R.x7 R.x10
/-- The self-attention's rows. -/
def Mem.ctxL : List (View.Piece (Elt Ideal) S256x768 .bf16) :=
  kernelRun0_A.sl.HS3_24 (F := Ideal) R.c R.arg1 R.harg1 R.arg6 R.harg6 R.arg7 R.harg7 R.arg8 R.harg8 R.arg10 R.harg10 R.arg11 R.harg11 R.arg39 R.arg40 R.arg41 R.x0 R.x5 R.x6 R.x7 R.x9 R.x10
/-- The rows after the first normalisation. -/
def Mem.h1L : List (View.Piece (Elt Ideal) S256x768 .f32) :=
  kernelRun0_A.sl.HS4_1 (F := Ideal) R.c R.arg1 R.harg1 R.arg6 R.harg6 R.arg7 R.harg7 R.arg8 R.harg8 R.arg9 R.harg9 R.arg10 R.harg10 R.arg11 R.harg11 R.arg12 R.harg12 R.arg13 R.harg13 R.arg14 R.harg14 R.arg39 R.arg40 R.arg41 R.arg42 R.x0 R.x5 R.x6 R.x7 R.x8 R.x9 R.x10 R.x11 R.x12 R.x13
/-- The queries of the cross-attention. -/
def Mem.cqL : List (View.Piece (Elt Ideal) S256x768 .bf16) :=
  kernelRun0_A.sl.HS5_1 (F := Ideal) R.c R.arg1 R.harg1 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg17 R.harg17 R.arg39 R.arg40 R.arg41 R.arg42 R.x0 R.x5 R.x6 R.x7 R.x8 R.x9 R.x10 R.x11 R.x12 R.x13 R.x14 R.x16
/-- The cross-attention's rows, over the self-attention's. -/
def Mem.ctx2L : List (View.Piece (Elt Ideal) S256x768 .bf16) :=
  kernelRun0_A.sl.HS3_72 (F := Ideal) R.c R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg17 R.harg17 R.arg19 R.harg19 R.arg20 R.harg20 R.arg21 R.harg21 R.arg22 R.harg22 R.arg23 R.harg23 R.arg39 R.arg40 R.arg41 R.arg42 R.arg44 R.arg45 R.arg46 R.x0 R.x1 R.x2 R.x3 R.x4 R.x5 R.x6 R.x7 R.x8 R.x9 R.x10 R.x11 R.x12 R.x13 R.x14 R.x16 R.x18 R.x19 R.x20 R.x21 R.x22
/-- The rows after the second normalisation. -/
def Mem.h2L : List (View.Piece (Elt Ideal) S256x768 .f32) :=
  kernelRun0_A.sl.HS4_2 (F := Ideal) R.c R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg39 R.arg40 R.arg41 R.arg42 R.arg43 R.arg44 R.arg45 R.arg46 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24
/-- The hidden rows. -/
def Mem.gL : List (View.Piece (Elt Ideal) S256x3072 .f32) :=
  kernelRun0_A.sl.HS8_12 (F := Ideal) R.c R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg39 R.arg40 R.arg41 R.arg42 R.arg43 R.arg44 R.arg45 R.arg46 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27
/-- The hidden rows' codes. -/
def Mem.gcL : List (View.Piece (Elt Ideal) S256x3072 .fp8e4m3) :=
  kernelRun0_A.sl.H36_12 (F := Ideal) R.c R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg39 R.arg40 R.arg41 R.arg42 R.arg43 R.arg44 R.arg45 R.arg46 R.arg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27
/-- The image keys after 1 sequences. -/
def Mem.ckL1 : List (View.Piece (Elt Ideal) S2x256x768 .bf16) :=
  kernelRun0_A.sl.HS6_3 (F := Ideal) R.c R.arg2 R.harg2 R.arg3 R.harg3 R.arg19 R.harg19 R.arg21 R.harg21 R.x1 R.x2 R.x18 R.x20
/-- The image keys after 2 sequences. -/
def Mem.ckL2 : List (View.Piece (Elt Ideal) S2x256x768 .bf16) :=
  kernelRun0_A.sl.HS6_6 (F := Ideal) R.c R.arg2 R.harg2 R.arg3 R.harg3 R.arg19 R.harg19 R.arg21 R.harg21 R.x1 R.x2 R.x18 R.x20
/-- The image keys after 3 sequences. -/
def Mem.ckL3 : List (View.Piece (Elt Ideal) S2x256x768 .bf16) :=
  kernelRun0_A.sl.HS6_9 (F := Ideal) R.c R.arg2 R.harg2 R.arg3 R.harg3 R.arg19 R.harg19 R.arg21 R.harg21 R.x1 R.x2 R.x18 R.x20
/-- The image keys after 4 sequences. -/
def Mem.ckL4 : List (View.Piece (Elt Ideal) S2x256x768 .bf16) :=
  kernelRun0_A.sl.HS6_12 (F := Ideal) R.c R.arg2 R.harg2 R.arg3 R.harg3 R.arg19 R.harg19 R.arg21 R.harg21 R.x1 R.x2 R.x18 R.x20
/-- The image keys after 5 sequences. -/
def Mem.ckL5 : List (View.Piece (Elt Ideal) S2x256x768 .bf16) :=
  kernelRun0_A.sl.HS6_15 (F := Ideal) R.c R.arg2 R.harg2 R.arg3 R.harg3 R.arg19 R.harg19 R.arg21 R.harg21 R.x1 R.x2 R.x18 R.x20
/-- The image keys after 6 sequences. -/
def Mem.ckL6 : List (View.Piece (Elt Ideal) S2x256x768 .bf16) :=
  kernelRun0_A.sl.HS6_18 (F := Ideal) R.c R.arg2 R.harg2 R.arg3 R.harg3 R.arg19 R.harg19 R.arg21 R.harg21 R.x1 R.x2 R.x18 R.x20
/-- The image keys after 7 sequences. -/
def Mem.ckL7 : List (View.Piece (Elt Ideal) S2x256x768 .bf16) :=
  kernelRun0_A.sl.HS6_21 (F := Ideal) R.c R.arg2 R.harg2 R.arg3 R.harg3 R.arg19 R.harg19 R.arg21 R.harg21 R.x1 R.x2 R.x18 R.x20
/-- The image keys after 8 sequences. -/
def Mem.ckL8 : List (View.Piece (Elt Ideal) S2x256x768 .bf16) :=
  kernelRun0_A.sl.HS6_24 (F := Ideal) R.c R.arg2 R.harg2 R.arg3 R.harg3 R.arg19 R.harg19 R.arg21 R.harg21 R.x1 R.x2 R.x18 R.x20
/-- The image values after 1 sequences. -/
def Mem.cvL1 : List (View.Piece (Elt Ideal) S2x256x768 .bf16) :=
  kernelRun0_A.sl.HS7_3 (F := Ideal) R.c R.arg2 R.harg2 R.arg3 R.harg3 R.arg20 R.harg20 R.arg22 R.harg22 R.arg23 R.harg23 R.x1 R.x2 R.x19 R.x21 R.x22
/-- The image values after 2 sequences. -/
def Mem.cvL2 : List (View.Piece (Elt Ideal) S2x256x768 .bf16) :=
  kernelRun0_A.sl.HS7_6 (F := Ideal) R.c R.arg2 R.harg2 R.arg3 R.harg3 R.arg20 R.harg20 R.arg22 R.harg22 R.arg23 R.harg23 R.x1 R.x2 R.x19 R.x21 R.x22
/-- The image values after 3 sequences. -/
def Mem.cvL3 : List (View.Piece (Elt Ideal) S2x256x768 .bf16) :=
  kernelRun0_A.sl.HS7_9 (F := Ideal) R.c R.arg2 R.harg2 R.arg3 R.harg3 R.arg20 R.harg20 R.arg22 R.harg22 R.arg23 R.harg23 R.x1 R.x2 R.x19 R.x21 R.x22
/-- The image values after 4 sequences. -/
def Mem.cvL4 : List (View.Piece (Elt Ideal) S2x256x768 .bf16) :=
  kernelRun0_A.sl.HS7_12 (F := Ideal) R.c R.arg2 R.harg2 R.arg3 R.harg3 R.arg20 R.harg20 R.arg22 R.harg22 R.arg23 R.harg23 R.x1 R.x2 R.x19 R.x21 R.x22
/-- The image values after 5 sequences. -/
def Mem.cvL5 : List (View.Piece (Elt Ideal) S2x256x768 .bf16) :=
  kernelRun0_A.sl.HS7_15 (F := Ideal) R.c R.arg2 R.harg2 R.arg3 R.harg3 R.arg20 R.harg20 R.arg22 R.harg22 R.arg23 R.harg23 R.x1 R.x2 R.x19 R.x21 R.x22
/-- The image values after 6 sequences. -/
def Mem.cvL6 : List (View.Piece (Elt Ideal) S2x256x768 .bf16) :=
  kernelRun0_A.sl.HS7_18 (F := Ideal) R.c R.arg2 R.harg2 R.arg3 R.harg3 R.arg20 R.harg20 R.arg22 R.harg22 R.arg23 R.harg23 R.x1 R.x2 R.x19 R.x21 R.x22
/-- The image values after 7 sequences. -/
def Mem.cvL7 : List (View.Piece (Elt Ideal) S2x256x768 .bf16) :=
  kernelRun0_A.sl.HS7_21 (F := Ideal) R.c R.arg2 R.harg2 R.arg3 R.harg3 R.arg20 R.harg20 R.arg22 R.harg22 R.arg23 R.harg23 R.x1 R.x2 R.x19 R.x21 R.x22
/-- The image values after 8 sequences. -/
def Mem.cvL8 : List (View.Piece (Elt Ideal) S2x256x768 .bf16) :=
  kernelRun0_A.sl.HS7_24 (F := Ideal) R.c R.arg2 R.harg2 R.arg3 R.harg3 R.arg20 R.harg20 R.arg22 R.harg22 R.arg23 R.harg23 R.x1 R.x2 R.x19 R.x21 R.x22
/-- The layer's output rows. -/
def Mem.outL : List (View.Piece (Elt Ideal) S256x768 .bf16) :=
  (kernelRun0_A (F := Ideal) R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32).1
/-- The codes after the second normalisation. -/
def Mem.h2cL : List (View.Piece (Elt Ideal) S256x768 .fp8e4m3) :=
  (kernelRun0_A (F := Ideal) R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32).2.1
/-- Their scales. -/
def Mem.h2sL : List (View.Piece (Elt Ideal) S8x32 .f32) :=
  (kernelRun0_A (F := Ideal) R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32).2.2.1
/-- The hidden rows' codes. -/
def Mem.gcLL : List (View.Piece (Elt Ideal) S256x3072 .fp8e4m3) :=
  (kernelRun0_A (F := Ideal) R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32).2.2.2.1
/-- Their scales. -/
def Mem.gsL : List (View.Piece (Elt Ideal) S8x32 .f32) :=
  (kernelRun0_A (F := Ideal) R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32).2.2.2.2.1

end Cert.KernelIdeal.Blk
-- ==== Proof.KBridgeSelf.lean ====
/-
  The self-attention's rows, as the run leaves them: 24 pieces, one per sequence and group, each of one form.
-/
module

public import proofs.«01_k».proof.Proof.KSelf
public import proofs.«01_k».proof.Proof.KMem

@[expose] public section

set_option maxRecDepth 16384

noncomputable section

namespace Cert.KernelIdeal.Blk

open Idealize.ShloMosaic Cert.KernelIdeal Cert.KernelIdeal.Gen QFormer

/-- The rows of sequence `b` and the columns of group `g`. -/
def grect (b : Fin 8) (g : Fin 3) : Rect S256x768 :=
  Rect.unit ![b.val * 32, g.val * 256] S32x256.size (by
    intro a; fin_cases a
    · show b.val * 32 + 32 ≤ 256; omega
    · show g.val * 256 + 256 ≤ 768; omega)

/-- One entry per sequence and group, the last first. -/
def each {α : Type} (f : Fin 8 → Fin 3 → α) : List α :=
  [f 7 2, f 7 1, f 7 0, f 6 2, f 6 1, f 6 0, f 5 2, f 5 1, f 5 0, f 4 2, f 4 1, f 4 0,
   f 3 2, f 3 1, f 3 0, f 2 2, f 2 1, f 2 0, f 1 2, f 1 1, f 1 0, f 0 2, f 0 1, f 0 0]

variable (R : Mem)

def Mem.selfPiece (b : Fin 8) (g : Fin 3) : View.Piece (Elt Ideal) S256x768 .bf16 :=
  ⟨grect b g, selfGroup (R.arg39.view.readCov R.qL (grect b g).toLoadRect) (R.arg40.view.readCov R.kL (grect b g).toLoadRect)
    (R.arg41.view.readCov R.vL (grect b g).toLoadRect)⟩

theorem ctxL_eq : R.ctxL = each R.selfPiece := rfl

end Cert.KernelIdeal.Blk
-- ==== Proof.KBridgeCross.lean ====
/-
  The image keys and values and the cross-attention's rows, as the run leaves them: pieces of one form per sequence
  and group.
-/
module

public import proofs.«01_k».proof.Proof.KCross
public import proofs.«01_k».proof.Proof.KBridgeSelf

@[expose] public section

set_option maxRecDepth 16384

noncomputable section

namespace Cert.KernelIdeal.Blk

open Idealize.ShloMosaic Cert.KernelIdeal Cert.KernelIdeal.Gen QFormer

/-- The slot of sequence `b` (even ones share one, odd ones the other) and the columns of group `g`. -/
def crect (b : Fin 8) (g : Fin 3) : Rect S2x256x768 :=
  Rect.unit ![b.val % 2, 0, g.val * 256] S1x256x256.size (by
    intro a; fin_cases a
    · show b.val % 2 + 1 ≤ 2; omega
    · show 0 + 256 ≤ 256; omega
    · show g.val * 256 + 256 ≤ 768; omega)
/-- The rows of sequence `b` and one half of the columns of group `g`. -/
def hrect (b : Fin 8) (g : Fin 3) (t : Fin 2) : Rect S256x768 :=
  Rect.unit ![b.val * 32, g.val * 256 + t.val * 128] S32x128.size (by
    intro a; fin_cases a
    · show b.val * 32 + 32 ≤ 256; omega
    · show g.val * 256 + t.val * 128 + 128 ≤ 768; omega)
/-- The image codes of sequence `b`. -/
def irect (b : Fin 8) : Rect S8x256x1408 :=
  Rect.unit ![b.val, 0, 0] S1x256x1408.size (by
    intro a; fin_cases a
    · show b.val + 1 ≤ 8; omega
    · show 0 + 256 ≤ 256; omega
    · show 0 + 1408 ≤ 1408; omega)
/-- The columns of group `g` of a weight, and of a row vector. -/
def wrect (g : Fin 3) : Rect S1408x768 :=
  Rect.unit ![0, g.val * 256] S1408x256.size (by
    intro a; fin_cases a
    · show 0 + 1408 ≤ 1408; omega
    · show g.val * 256 + 256 ≤ 768; omega)
def vrect (g : Fin 3) : Rect S1x768 :=
  Rect.unit ![0, g.val * 256] S1x256.size (by
    intro a; fin_cases a
    · show 0 + 1 ≤ 1; omega
    · show g.val * 256 + 256 ≤ 768; omega)
/-- Sequence `b`'s row of a block of rows, in the columns of group `g`, and in one half of them. -/
def srect (b : Fin 8) (g : Fin 3) : Rect S8x768 :=
  Rect.unit ![b.val, g.val * 256] S1x256.size (by
    intro a; fin_cases a
    · show b.val + 1 ≤ 8; omega
    · show g.val * 256 + 256 ≤ 768; omega)
def shrect (b : Fin 8) (g : Fin 3) (t : Fin 2) : Rect S8x768 :=
  Rect.unit ![b.val, g.val * 256 + t.val * 128] S1x128.size (by
    intro a; fin_cases a
    · show b.val + 1 ≤ 8; omega
    · show g.val * 256 + t.val * 128 + 128 ≤ 768; omega)
def tokRect : Rect S8x257 :=
  Rect.unit ![0, 0] S8x256.size (by
    intro a; fin_cases a
    · show 0 + 8 ≤ 8; omega
    · show 0 + 256 ≤ 257; omega)

theorem slicesTok (b : Fin 8) : S256x8.Slices ![0, b.val] S256x1 := by
  fin_cases b
  · exact slices_S256x8_o0_0_S256x1
  · exact slices_S256x8_o0_1_S256x1
  · exact slices_S256x8_o0_2_S256x1
  · exact slices_S256x8_o0_3_S256x1
  · exact slices_S256x8_o0_4_S256x1
  · exact slices_S256x8_o0_5_S256x1
  · exact slices_S256x8_o0_6_S256x1
  · exact slices_S256x8_o0_7_S256x1

/-- The token scales of sequence `b`, as a column. -/
def tokScales (isc : FVec Ideal S8x256 .f32) (b : Fin 8) : FVec Ideal S256x1 .f32 :=
  extractStridedSlice S256x1 ![0, b.val] (transpose S256x8 [1, 0] isc transposes_S8x256_p1_0_S256x8) (slicesTok b)
theorem tokScales_apply (isc : FVec Ideal S8x256 .f32) (b : Fin 8) (j : Fin 256) : tokScales isc b (ix2 j 0) = isc (ix2 b j) := by
  pointwise [tokScales]

variable (R : Mem)

def Mem.ck : Fin 8 → List (View.Piece (Elt Ideal) S2x256x768 .bf16)
  | 0 => R.ckL1 | 1 => R.ckL2 | 2 => R.ckL3 | 3 => R.ckL4 | 4 => R.ckL5 | 5 => R.ckL6 | 6 => R.ckL7 | 7 => R.ckL8
def Mem.cv : Fin 8 → List (View.Piece (Elt Ideal) S2x256x768 .bf16)
  | 0 => R.cvL1 | 1 => R.cvL2 | 2 => R.cvL3 | 3 => R.cvL4 | 4 => R.cvL5 | 5 => R.cvL6 | 6 => R.cvL7 | 7 => R.cvL8

def Mem.img (b : Fin 8) : FVec Ideal S1x256x1408 .fp8e4m3 := View.readAt (Elt Ideal) R.arg2.view (irect b).toLoadRect (R.harg2.unread R.x1)
def Mem.tok (b : Fin 8) : FVec Ideal S256x1 .f32 := tokScales (View.readAt (Elt Ideal) R.arg3.view tokRect.toLoadRect (R.harg3.unread R.x2)) b

def Mem.keyPiece (b : Fin 8) (g : Fin 3) : View.Piece (Elt Ideal) S2x256x768 .bf16 :=
  ⟨crect b g, imgKey (R.img b) (View.readAt (Elt Ideal) R.arg19.view (wrect g).toLoadRect (R.harg19.unread R.x18)) (R.tok b)
    (View.readAt (Elt Ideal) R.arg21.view (vrect g).toLoadRect (R.harg21.unread R.x20))⟩
def Mem.valPiece (b : Fin 8) (g : Fin 3) : View.Piece (Elt Ideal) S2x256x768 .bf16 :=
  ⟨crect b g, imgVal (R.img b) (View.readAt (Elt Ideal) R.arg20.view (wrect g).toLoadRect (R.harg20.unread R.x19)) (R.tok b)
    (View.readAt (Elt Ideal) R.arg22.view (vrect g).toLoadRect (R.harg22.unread R.x21))
    (View.readAt (Elt Ideal) R.arg23.view (vrect g).toLoadRect (R.harg23.unread R.x22))⟩

theorem ck_eq (b : Fin 8) : ∃ L, R.ck b = R.keyPiece b 2 :: R.keyPiece b 1 :: R.keyPiece b 0 :: L := by
  fin_cases b <;> exact ⟨_, rfl⟩
theorem cv_eq (b : Fin 8) : ∃ L, R.cv b = R.valPiece b 2 :: R.valPiece b 1 :: R.valPiece b 0 :: L := by
  fin_cases b <;> exact ⟨_, rfl⟩

def Mem.leftPiece (b : Fin 8) (g : Fin 3) : View.Piece (Elt Ideal) S256x768 .bf16 :=
  ⟨hrect b g 0, crossLeft (R.arg44.view.readCov R.cqL (grect b g).toLoadRect) (R.arg45.view.readCov (R.ck b) (crect b g).toLoadRect)
    (R.arg46.view.readCov (R.cv b) (crect b g).toLoadRect)
    (View.readAt (Elt Ideal) R.arg4.view (srect b g).toLoadRect (R.harg4.unread R.x3))
    (View.readAt (Elt Ideal) R.arg5.view (shrect b g 0).toLoadRect (R.harg5.unread R.x4))⟩
def Mem.rightPiece (b : Fin 8) (g : Fin 3) : View.Piece (Elt Ideal) S256x768 .bf16 :=
  ⟨hrect b g 1, crossRight (R.arg44.view.readCov R.cqL (grect b g).toLoadRect) (R.arg45.view.readCov (R.ck b) (crect b g).toLoadRect)
    (R.arg46.view.readCov (R.cv b) (crect b g).toLoadRect)
    (View.readAt (Elt Ideal) R.arg4.view (srect b g).toLoadRect (R.harg4.unread R.x3))
    (View.readAt (Elt Ideal) R.arg5.view (shrect b g 1).toLoadRect (R.harg5.unread R.x4))⟩

theorem ctx2L_eq : R.ctx2L = (each fun b g => [R.rightPiece b g, R.leftPiece b g]).flatten ++ R.ctxL := rfl

end Cert.KernelIdeal.Blk
-- ==== Proof.KFfn.lean ====
/-
  The kernel's projections, normalisation, quantiser and feed-forward network on one block of 256 rows, entry by entry.
-/
module

public import proofs.«01_k».proof.Proof.KSelf
public import Idealize.ShloMosaic.Lib.IndicatorCount

@[expose] public section

set_option maxRecDepth 16384

noncomputable section

open scoped BigOperators

namespace Cert.KernelIdeal.Blk

open Idealize.ShloMosaic Cert.KernelIdeal Cert.KernelIdeal.Gen QFormer

/-! ### Projections -/

def rowsOf (b : FVec Ideal S1x768 .f32) : FVec Ideal S256x768 .f32 :=
  broadcastTo S256x768 (shapeCast S1x768 b shapeCasts_S1x768_S1x768) broadcasts_S1x768_S256x768
def lin (a : FVec Ideal S256x768 .bf16) (w : FVec Ideal S768x768 .bf16) : FVec Ideal S256x768 .f32 :=
  matmul dot_S256x768_S768x768_S256x768_1_0_0_1_n_n none a w (constant S256x768 .f32 0x00000000#32)
def affine (a : FVec Ideal S256x768 .bf16) (w : FVec Ideal S768x768 .bf16) (b : FVec Ideal S1x768 .f32) : FVec Ideal S256x768 .f32 :=
  addf (lin a w) (rowsOf b)
def stored (t : FVec Ideal S256x768 .f32) : FVec Ideal S256x768 .bf16 :=
  shapeCast S256x768 (truncf .bf16 t bitsLt_bf16_f32) shapeCasts_S256x768_S256x768

theorem rowsOf_apply (b : FVec Ideal S1x768 .f32) (r : Fin 256) (c : Fin 768) : rowsOf b (ix2 r c) = b (ix2 0 c) := by
  pointwise [rowsOf]
theorem lin_apply (a : FVec Ideal S256x768 .bf16) (w : FVec Ideal S768x768 .bf16) (r : Fin 256) (c : Fin 768) :
    lin a w (ix2 r c) = proj (asMat a r) (asMat w) c := by
  unfold proj
  pointwise [lin]
theorem affine_apply (a : FVec Ideal S256x768 .bf16) (w : FVec Ideal S768x768 .bf16) (b : FVec Ideal S1x768 .f32) (r : Fin 256) (c : Fin 768) :
    affine a w b (ix2 r c) = proj (asMat a r) (asMat w) c + b (ix2 0 c) := by
  rw [← lin_apply, ← rowsOf_apply b r c]; rfl
theorem stored_apply (t : FVec Ideal S256x768 .f32) (r : Fin 256) (c : Fin 768) : stored t (ix2 r c) = t (ix2 r c) := by
  pointwise [stored]

/-! ### Normalisation -/

/-- The constant the kernel multiplies a sum by to form a mean. -/
def invD : Ideal .f32 := Named.named κ "inv_d_model" 0x3AAAAAAB#32
theorem invD_eq : invD = ((1 / 768 : ℝ) : EReal) := IdealRules.named_const.ideal_named_scalar _ _ _ _ rfl

def colOf (t : FVec Ideal S256x1 .f32) : FVec Ideal S256x768 .f32 := broadcastTo S256x768 t broadcasts_S256x1_S256x768
def rowSums (t : FVec Ideal S256x768 .f32) : FVec Ideal S256x1 .f32 :=
  shapeCast S256x1 (multiReduction .add [1] S256 t 0x00000000#32 reduces_S256x768_S256 (.inl rfl) rfl) shapeCasts_S256_S256x1
def rowMeans (t : FVec Ideal S256x768 .f32) : FVec Ideal S256x1 .f32 := mulf (rowSums t) (broadcast S256x1 invD)
def centred (t : FVec Ideal S256x768 .f32) : FVec Ideal S256x768 .f32 := subf t (colOf (rowMeans t))
def norm (t : FVec Ideal S256x768 .f32) (g b : FVec Ideal S1x768 .f32) : FVec Ideal S256x768 .f32 :=
  addf (mulf (mulf (centred t) (colOf (rsqrt (addf (rowMeans (mulf (centred t) (centred t)))
    (broadcast S256x1 (Scalar.ofBits .f32 0x2B8CBCCC#32)))))) (rowsOf g)) (rowsOf b)

theorem colOf_apply (t : FVec Ideal S256x1 .f32) (r : Fin 256) (c : Fin 768) : colOf t (ix2 r c) = t (ix2 r 0) := by
  pointwise [colOf]
theorem rowSums_apply (t : FVec Ideal S256x768 .f32) (r : Fin 256) : rowSums t (ix2 r 0) = ∑ c, t (ix2 r c) := by
  pointwise [rowSums]
theorem rowMeans_apply (t : FVec Ideal S256x768 .f32) (r : Fin 256) : rowMeans t (ix2 r 0) = mean (asMat t r) := by
  unfold mean
  rw [← mul_inv_768, ← invD_eq]
  exact congrArg (· * invD) (rowSums_apply t r)
theorem centred_apply (t : FVec Ideal S256x768 .f32) (r : Fin 256) (c : Fin 768) :
    centred t (ix2 r c) = t (ix2 r c) - mean (asMat t r) := by
  rw [← rowMeans_apply, ← colOf_apply (rowMeans t) r c]; rfl
theorem norm_apply (t : FVec Ideal S256x768 .f32) (g b : FVec Ideal S1x768 .f32) (r : Fin 256) (c : Fin 768) :
    norm t g b (ix2 r c) = layerNorm (asMat t r) (asMat g 0) (asMat b 0) c := by
  have hm := rowMeans_apply (mulf (centred t) (centred t)) r
  have hc : ∀ c, asMat (mulf (centred t) (centred t)) r c
      = (t (ix2 r c) - mean (asMat t r)) * (t (ix2 r c) - mean (asMat t r)) := fun c => by
    rw [← centred_apply]; rfl
  rw [funext hc] at hm
  unfold layerNorm eps
  rw [← hm]
  pointwise [norm, rowsOf_apply, colOf_apply, centred_apply]

/-- The rows after self-attention. -/
def afterSelf (x ctx : FVec Ideal S256x768 .bf16) (w : FVec Ideal S768x768 .bf16) (b g bt : FVec Ideal S1x768 .f32) : FVec Ideal S256x768 .f32 :=
  norm (addf (extf .f32 x bitsLt_bf16_f32) (affine ctx w b)) g bt
/-- The rows after cross-attention. -/
def afterCross (h : FVec Ideal S256x768 .f32) (ctx : FVec Ideal S256x768 .bf16) (w : FVec Ideal S768x768 .bf16) (b g bt : FVec Ideal S1x768 .f32) :
    FVec Ideal S256x768 .f32 :=
  norm (addf h (affine ctx w b)) g bt

theorem afterSelf_apply (x ctx : FVec Ideal S256x768 .bf16) (w : FVec Ideal S768x768 .bf16) (b g bt : FVec Ideal S1x768 .f32) (r : Fin 256) (c : Fin 768) :
    afterSelf x ctx w b g bt (ix2 r c)
      = layerNorm (fun c => x (ix2 r c) + (proj (asMat ctx r) (asMat w) c + b (ix2 0 c))) (asMat g 0) (asMat bt 0) c := by
  unfold afterSelf
  rw [norm_apply]
  congr 1
  funext c
  rw [← affine_apply]; rfl
theorem afterCross_apply (h : FVec Ideal S256x768 .f32) (ctx : FVec Ideal S256x768 .bf16) (w : FVec Ideal S768x768 .bf16) (b g bt : FVec Ideal S1x768 .f32)
    (r : Fin 256) (c : Fin 768) : afterCross h ctx w b g bt (ix2 r c)
      = layerNorm (fun c => h (ix2 r c) + (proj (asMat ctx r) (asMat w) c + b (ix2 0 c))) (asMat g 0) (asMat bt 0) c := by
  unfold afterCross
  rw [norm_apply]
  congr 1
  funext c
  rw [← affine_apply]; rfl

/-! ### The quantiser -/

/-- Lane `e` of a row: the number whose word is `e` in the exponent field. -/
def powers : FVec Ideal S256x256 .f32 :=
  bitcastToFloat .f32 (shli (iota .tc S256x256 32 [1] iota_S256x256_d1_w32) (broadcast S256x256 23#32))
def flags (a : FVec Ideal S256x1 .f32) : IVec S256x256 1 :=
  cmpf .oge (broadcastTo S256x256 (mulf a (broadcast S256x1 (Scalar.ofBits .f32 0x3B124925#32))) broadcasts_S256x1_S256x256) powers
def counts (a : FVec Ideal S256x1 .f32) : IVec S256x1 32 :=
  shapeCast S256x1 (multiReductionI .add [1] S256 (extui 32 (flags a) natLt_1_32) 0#32 reduces_S256x256_S256 rfl) shapeCasts_S256_S256x1
/-- A row's biased exponent, from the column of the rows' largest magnitudes. -/
def biased (a : FVec Ideal S256x1 .f32) : IVec S256x1 32 :=
  select (cmpf .oeq a (broadcast S256x1 (Scalar.ofBits .f32 0x00000000#32))) (broadcast S256x1 126#32)
    (minsi (subi (counts a) (broadcast S256x1 1#32)) (broadcast S256x1 252#32))
def scales (a : FVec Ideal S256x1 .f32) : FVec Ideal S256x1 .f32 :=
  bitcastToFloat .f32 (shli (addi (biased a) (broadcast S256x1 1#32)) (broadcast S256x1 23#32))
def invs (a : FVec Ideal S256x1 .f32) : FVec Ideal S256x1 .f32 :=
  bitcastToFloat .f32 (shli (subi (broadcast S256x1 253#32) (biased a)) (broadcast S256x1 23#32))
/-- A column of 256 numbers as eight rows of 32. -/
def asRows (t : FVec Ideal S256x1 .f32) : FVec Ideal S8x32 .f32 :=
  multiReduction .add [1] S8x32 (select (cmpi .eq (iota .tc S8x32x32 32 [1] iota_S8x32x32_d1_w32) (iota .tc S8x32x32 32 [2] iota_S8x32x32_d2_w32))
    (shapeCast S8x32x32 (broadcastTo S256x32 (shapeCast S256x1 t shapeCasts_S256x1_S256x1) broadcasts_S256x1_S256x32) shapeCasts_S256x32_S8x32x32)
    (broadcast S8x32x32 (Scalar.ofBits .f32 0x00000000#32))) 0x00000000#32 reduces_S8x32x32_S8x32 (.inl rfl) rfl
def largest768 (v : FVec Ideal S256x768 .f32) : FVec Ideal S256x1 .f32 :=
  shapeCast S256x1 (multiReduction .maximumf [1] S256 (absf v) 0xFF800000#32 reduces_S256x768_S256 (.inl rfl) rfl) shapeCasts_S256_S256x1
def largest256 (v : FVec Ideal S256x256 .f32) : FVec Ideal S256x1 .f32 :=
  shapeCast S256x1 (multiReduction .maximumf [1] S256 (absf v) 0xFF800000#32 reduces_S256x256_S256 (.inl rfl) rfl) shapeCasts_S256_S256x1
def codes768 (v : FVec Ideal S256x768 .f32) (n : FVec Ideal S256x1 .f32) : FVec Ideal S256x768 .fp8e4m3 :=
  truncf .fp8e4m3 (minimumf (broadcast S256x768 (Scalar.ofBits .f32 0x43E00000#32)) (maximumf (broadcast S256x768 (Scalar.ofBits .f32 0xC3E00000#32))
    (mulf v (colOf n)))) bitsLt_fp8e4m3_f32
def codes256 (v : FVec Ideal S256x256 .f32) (n : FVec Ideal S256x1 .f32) : FVec Ideal S256x256 .fp8e4m3 :=
  truncf .fp8e4m3 (minimumf (broadcast S256x256 (Scalar.ofBits .f32 0x43E00000#32)) (maximumf (broadcast S256x256 (Scalar.ofBits .f32 0xC3E00000#32))
    (mulf v (broadcastTo S256x256 n broadcasts_S256x1_S256x256)))) bitsLt_fp8e4m3_f32

theorem shli_23 (x : BitVec 32) : IntOp.shli ArithUnit.vector x 23#32 = x <<< 23 := by
  simp [IntOp.shli]
theorem flags_apply (a : FVec Ideal S256x1 .f32) (r e : Fin 256) :
    flags a (ix2 r e) = 1#1 ↔ threshold e.val ≤ a (ix2 r 0) * invCodeMax := by
  have h : flags a (ix2 r e) = BitVec.ofBool (decide (threshold e.val ≤ a (ix2 r 0) * invCodeMax)) := by
    unfold threshold invCodeMax
    rw [← shli_23]
    pointwise [flags, powers]
  rw [h]
  by_cases hp : threshold e.val ≤ a (ix2 r 0) * invCodeMax <;> simp [hp]
theorem counts_apply (a : FVec Ideal S256x1 .f32) (r : Fin 256) :
    counts a (ix2 r 0) = BitVec.ofNat 32 (countLe (a (ix2 r 0) * invCodeMax)) := by
  have h : counts a (ix2 r 0) = Finset.univ.fold IntOp.addi (0#32) (fun e : Fin 256 => (flags a (ix2 r e)).setWidth 32) := by
    pointwise [counts]
  rw [h, IndicatorCount.fold_addi_setWidth_eq_card]
  unfold countLe
  exact congrArg (fun s : Finset (Fin 256) => BitVec.ofNat 32 s.card) (Finset.filter_congr fun e _ => flags_apply a r e)
theorem biased_apply (a : FVec Ideal S256x1 .f32) (r : Fin 256) : biased a (ix2 r 0) = biasedOf (a (ix2 r 0)) := by
  unfold biasedOf
  rw [← counts_apply]
  pointwise [biased]
  rfl
theorem scales_apply (a : FVec Ideal S256x1 .f32) (r : Fin 256) (h : 0 ≤ a (ix2 r 0)) :
    scales a (ix2 r 0) = Ideal.exp2 (scaleExp (a (ix2 r 0))) := by
  rw [← scale_word h, ← biased_apply, ← shli_23]
  pointwise [scales]
  rfl
theorem invs_apply (a : FVec Ideal S256x1 .f32) (r : Fin 256) (h : 0 ≤ a (ix2 r 0)) :
    invs a (ix2 r 0) = Ideal.exp2 (-(scaleExp (a (ix2 r 0)))) := by
  rw [← inv_word h, ← biased_apply, ← shli_23]
  pointwise [invs]
  rfl
theorem largest768_apply (v : FVec Ideal S256x768 .f32) (r : Fin 256) : largest768 v (ix2 r 0) = absMax (asMat v r) := by
  unfold absMax rowMax
  rw [← lit_bot]
  pointwise [largest768]
  rfl
theorem largest256_apply (v : FVec Ideal S256x256 .f32) (r : Fin 256) : largest256 v (ix2 r 0) = absMax (asMat v r) := by
  unfold absMax rowMax
  rw [← lit_bot]
  pointwise [largest256]
  rfl
theorem codes768_apply (v : FVec Ideal S256x768 .f32) (n : FVec Ideal S256x1 .f32) (r : Fin 256) (c : Fin 768) :
    codes768 v n (ix2 r c) = min ((448 : ℝ) : EReal) (max ((-448 : ℝ) : EReal) (v (ix2 r c) * n (ix2 r 0))) := by
  rw [← lit_448, ← lit_neg448]
  pointwise [codes768, colOf]
theorem codes256_apply (v : FVec Ideal S256x256 .f32) (n : FVec Ideal S256x1 .f32) (r c : Fin 256) :
    codes256 v n (ix2 r c) = min ((448 : ℝ) : EReal) (max ((-448 : ℝ) : EReal) (v (ix2 r c) * n (ix2 r 0))) := by
  rw [← lit_448, ← lit_neg448]
  pointwise [codes256]

/-- Row `s` of sequence `b` of the block. -/
def brow (b : Fin 8) (s : Fin 32) : Fin 256 := ⟨b.val * 32 + s.val, by omega⟩

theorem diag_apply (i j : Fin 32) : IntOp.cmpi .eq (BitVec.ofNat 32 i.val) (BitVec.ofNat 32 j.val) = if i = j then 1#1 else 0#1 := by
  revert i j; decide +kernel
theorem asRows_apply (t : FVec Ideal S256x1 .f32) (b : Fin 8) (s : Fin 32) : asRows t (ix2 b s) = t (ix2 (brow b s) 0) := by
  have h : asRows t (ix2 b s) = ∑ i : Fin 32, Scalar.select (IntOp.cmpi .eq (BitVec.ofNat 32 i.val) (BitVec.ofNat 32 s.val)) (t (ix2 (brow b i) 0)) 0 := by
    pointwise [asRows, brow]
  rw [h]
  simp only [diag_apply]
  rw [Finset.sum_eq_single s]
  · simp [Scalar.select]
  · intro i _ hi; simp [Scalar.select, hi]
  · simp

/-! ### The feed-forward network -/

def wide256 (b : FVec Ideal S1x256 .f32) : FVec Ideal S256x256 .f32 :=
  broadcastTo S256x256 (shapeCast S1x256 b shapeCasts_S1x256_S1x256) broadcasts_S1x256_S256x256
def pre (a : FVec Ideal S256x768 .fp8e4m3) (sc : FVec Ideal S256x1 .f32) (w : FVec Ideal S768x256 .fp8e4m3) (sf bf : FVec Ideal S1x256 .f32) :
    FVec Ideal S256x256 .f32 :=
  addf (mulf (matmul dot_S256x768_S768x256_S256x256_1_0_0_1_n_n none a w (constant S256x256 .f32 0x00000000#32))
    (mulf (broadcastTo S256x256 sc broadcasts_S256x1_S256x256) (wide256 sf))) (wide256 bf)
def geluOf (f : FVec Ideal S256x256 .f32) : FVec Ideal S256x256 .f32 :=
  mulf (mulf (broadcast S256x256 (Scalar.ofBits .f32 0x3F000000#32)) f) (addf (broadcast S256x256 (Scalar.ofBits .f32 0x3F800000#32))
    (erf (mulf f (broadcast S256x256 (Scalar.ofBits .f32 0x3F3504F3#32)))))
/-- One chunk of 256 hidden columns. -/
def chunk (a : FVec Ideal S256x768 .fp8e4m3) (sc : FVec Ideal S256x1 .f32) (w : FVec Ideal S768x256 .fp8e4m3) (sf bf : FVec Ideal S1x256 .f32) :
    FVec Ideal S256x256 .f32 := geluOf (pre a sc w sf bf)
def kept (t : FVec Ideal S256x256 .f32) : FVec Ideal S256x256 .f32 := shapeCast S256x256 t shapeCasts_S256x256_S256x256
def ffnOut (a : FVec Ideal S256x3072 .fp8e4m3) (sc : FVec Ideal S256x1 .f32) (w : FVec Ideal S3072x768 .fp8e4m3) (sf bf : FVec Ideal S1x768 .f32) :
    FVec Ideal S256x768 .f32 :=
  addf (mulf (matmul dot_S256x3072_S3072x768_S256x768_1_0_0_1_n_n none (shapeCast S256x3072 a shapeCasts_S256x3072_S256x3072) w
    (constant S256x768 .f32 0x00000000#32)) (mulf (colOf sc) (rowsOf sf))) (rowsOf bf)
def last (h f : FVec Ideal S256x768 .f32) (g b : FVec Ideal S1x768 .f32) : FVec Ideal S256x768 .bf16 :=
  truncf .bf16 (norm (addf h f) g b) bitsLt_bf16_f32

theorem wide256_apply (b : FVec Ideal S1x256 .f32) (r c : Fin 256) : wide256 b (ix2 r c) = b (ix2 0 c) := by
  pointwise [wide256]
theorem pre_apply (a : FVec Ideal S256x768 .fp8e4m3) (sc : FVec Ideal S256x1 .f32) (w : FVec Ideal S768x256 .fp8e4m3) (sf bf : FVec Ideal S1x256 .f32)
    (r c : Fin 256) : pre a sc w sf bf (ix2 r c)
      = (∑ i, a (ix2 r i) * w (ix2 i c)) * (sc (ix2 r 0) * sf (ix2 0 c)) + bf (ix2 0 c) := by
  pointwise [pre, wide256]
theorem geluOf_apply (f : FVec Ideal S256x256 .f32) (r c : Fin 256) : geluOf f (ix2 r c) = gelu (f (ix2 r c)) := by
  unfold gelu sqrtHalf
  rw [← lit_half, ← lit_one]
  pointwise [geluOf]
  rfl
theorem chunk_apply (a : FVec Ideal S256x768 .fp8e4m3) (sc : FVec Ideal S256x1 .f32) (w : FVec Ideal S768x256 .fp8e4m3) (sf bf : FVec Ideal S1x256 .f32)
    (r c : Fin 256) : chunk a sc w sf bf (ix2 r c)
      = gelu ((∑ i, a (ix2 r i) * w (ix2 i c)) * (sc (ix2 r 0) * sf (ix2 0 c)) + bf (ix2 0 c)) := by
  unfold chunk; rw [geluOf_apply, pre_apply]
theorem kept_apply (t : FVec Ideal S256x256 .f32) (r c : Fin 256) : kept t (ix2 r c) = t (ix2 r c) := by
  pointwise [kept]
theorem ffnOut_apply (a : FVec Ideal S256x3072 .fp8e4m3) (sc : FVec Ideal S256x1 .f32) (w : FVec Ideal S3072x768 .fp8e4m3) (sf bf : FVec Ideal S1x768 .f32)
    (r : Fin 256) (c : Fin 768) : ffnOut a sc w sf bf (ix2 r c)
      = proj (asMat a r) (asMat w) c * (sc (ix2 r 0) * sf (ix2 0 c)) + bf (ix2 0 c) := by
  unfold proj
  pointwise [ffnOut, colOf, rowsOf]
theorem last_apply (h f : FVec Ideal S256x768 .f32) (g b : FVec Ideal S1x768 .f32) (r : Fin 256) (c : Fin 768) :
    last h f g b (ix2 r c) = layerNorm (fun c => h (ix2 r c) + f (ix2 r c)) (asMat g 0) (asMat b 0) c :=
  norm_apply (addf h f) g b r c

theorem le_rowMax {n : ℕ} (f : Row n) (i : Fin n) : f i ≤ rowMax f := by
  rw [rowMax_eq_sup]; exact Finset.le_sup (Finset.mem_univ i)
theorem rowMax_le {n : ℕ} {f : Row n} {m : EReal} (h : ∀ i, f i ≤ m) : rowMax f ≤ m := by
  rw [rowMax_eq_sup]; exact Finset.sup_le fun i _ => h i
theorem rowMax_one (f : Row 1) : rowMax f = f 0 :=
  le_antisymm (rowMax_le fun i => le_of_eq (congrArg f (Subsingleton.elim _ _))) (le_rowMax f 0)

/-- Hidden column `c` of chunk `n`. -/
def chcol (n : Fin 12) (c : Fin 256) : Fin 3072 := ⟨n.val * 256 + c.val, by omega⟩
theorem exists_chcol (j : Fin 3072) : ∃ n c, j = chcol n c :=
  ⟨⟨j.val / 256, by omega⟩, ⟨j.val % 256, by omega⟩, Fin.ext (by simp only [chcol]; omega)⟩

/-- The largest of twelve numbers, one after another. -/
def running (f : Fin 12 → EReal) : EReal :=
  max (max (max (max (max (max (max (max (max (max (max (f 0) (f 1)) (f 2)) (f 3)) (f 4)) (f 5)) (f 6)) (f 7)) (f 8)) (f 9)) (f 10)) (f 11)
theorem le_running (f : Fin 12 → EReal) (n : Fin 12) : f n ≤ running f := by
  unfold running
  fin_cases n <;> simp
theorem running_le {f : Fin 12 → EReal} {m : EReal} (h : ∀ n, f n ≤ m) : running f ≤ m := by
  unfold running
  simp only [max_le_iff, h, and_self]

/-- A running maximum over the chunks of a row of 3072. -/
theorem absMax_chunks (v : Row 3072) : running (fun n => absMax (fun c : Fin 256 => v (chcol n c))) = absMax v := by
  refine le_antisymm (running_le fun n => rowMax_le fun c => le_rowMax (fun j => max (v j) (-(v j))) (chcol n c)) (rowMax_le fun j => ?_)
  obtain ⟨n, c, rfl⟩ := exists_chcol j
  exact le_trans (le_rowMax (fun c : Fin 256 => max (v (chcol n c)) (-(v (chcol n c)))) c)
    (le_running (fun n => absMax (fun c : Fin 256 => v (chcol n c))) n)

end Cert.KernelIdeal.Blk
-- ==== Proof.KBridgeFfn.lean ====
/-
  The projections, normalisations, quantised rows and the feed-forward network, as the run leaves them.
-/
module

public import proofs.«01_k».proof.Proof.KFfn
public import proofs.«01_k».proof.Proof.KMem

@[expose] public section

set_option maxRecDepth 16384

noncomputable section

namespace Cert.KernelIdeal.Blk

open Idealize.ShloMosaic Cert.KernelIdeal Cert.KernelIdeal.Gen QFormer

/-- All of a two-dimensional array. -/
def whole2 {m n : ℕ} : Rect ⟨2, ![m, n]⟩ := Rect.unit ![0, 0] ![m, n] (by
  intro a; fin_cases a
  · show 0 + m ≤ m; omega
  · show 0 + n ≤ n; omega)
/-- The columns of chunk `n` of the hidden rows, of the first weight, and of a row vector. -/
def nrect (n : Fin 12) : Rect S256x3072 :=
  Rect.unit ![0, n.val * 256] S256x256.size (by
    intro a; fin_cases a
    · show 0 + 256 ≤ 256; omega
    · show n.val * 256 + 256 ≤ 3072; omega)
def wnrect (n : Fin 12) : Rect S768x3072 :=
  Rect.unit ![0, n.val * 256] S768x256.size (by
    intro a; fin_cases a
    · show 0 + 768 ≤ 768; omega
    · show n.val * 256 + 256 ≤ 3072; omega)
def vnrect (n : Fin 12) : Rect S1x3072 :=
  Rect.unit ![0, n.val * 256] S1x256.size (by
    intro a; fin_cases a
    · show 0 + 1 ≤ 1; omega
    · show n.val * 256 + 256 ≤ 3072; omega)

/-- What a load of a rectangle of a whole buffer finds. -/
def fetch {S : Shape} {e : EltTy} (A : Memref sig .tc .vmem S e) (h : A.IsWhole) (r : Rect S) (x : Vec Ideal S e) :=
  View.readAt (Elt Ideal) A.view r.toLoadRect (h.unread x)

def keep (t : FVec Ideal S256x768 .f32) : FVec Ideal S256x768 .f32 := shapeCast S256x768 t shapeCasts_S256x768_S256x768
theorem keep_apply (t : FVec Ideal S256x768 .f32) (r : Fin 256) (c : Fin 768) : keep t (ix2 r c) = t (ix2 r c) := by
  pointwise [keep]

variable (R : Mem)

/-- The block's rows. -/
def Mem.X : FVec Ideal S256x768 .bf16 := shapeCast S256x768 (fetch R.arg1 R.harg1 whole2 R.x0) shapeCasts_S256x768_S256x768
theorem qL_eq : R.qL = [⟨whole2, stored (affine R.X (fetch R.arg6 R.harg6 whole2 R.x5) (fetch R.arg10 R.harg10 whole2 R.x9))⟩] := rfl
theorem kL_eq : R.kL = [⟨whole2, stored (lin R.X (fetch R.arg7 R.harg7 whole2 R.x6))⟩] := rfl
theorem vL_eq : R.vL = [⟨whole2, stored (affine R.X (fetch R.arg8 R.harg8 whole2 R.x7) (fetch R.arg11 R.harg11 whole2 R.x10))⟩] := rfl

def Mem.H1 : FVec Ideal S256x768 .f32 :=
  afterSelf R.X (R.arg42.view.readCov R.ctxL whole2.toLoadRect) (fetch R.arg9 R.harg9 whole2 R.x8) (fetch R.arg12 R.harg12 whole2 R.x11)
    (fetch R.arg13 R.harg13 whole2 R.x12) (fetch R.arg14 R.harg14 whole2 R.x13)
theorem h1L_eq : R.h1L = [⟨whole2, keep R.H1⟩] := rfl
theorem cqL_eq : R.cqL = [⟨whole2, stored (affine (truncf .bf16 R.H1 bitsLt_bf16_f32) (fetch R.arg15 R.harg15 whole2 R.x14)
    (fetch R.arg17 R.harg17 whole2 R.x16))⟩] := rfl

def Mem.H2 : FVec Ideal S256x768 .f32 :=
  afterCross (R.arg43.view.readCov R.h1L whole2.toLoadRect) (R.arg42.view.readCov R.ctx2L whole2.toLoadRect) (fetch R.arg16 R.harg16 whole2 R.x15)
    (fetch R.arg18 R.harg18 whole2 R.x17) (fetch R.arg24 R.harg24 whole2 R.x23) (fetch R.arg25 R.harg25 whole2 R.x24)
theorem h2L_eq : R.h2L = ⟨whole2, keep R.H2⟩ :: R.h1L := rfl

def Mem.A : FVec Ideal S256x1 .f32 := largest768 R.H2
def Mem.C : FVec Ideal S256x768 .fp8e4m3 := codes768 R.H2 (invs R.A)
theorem h2cL_eq : R.h2cL = [⟨whole2, R.C⟩] := rfl
theorem h2sL_eq : R.h2sL = [⟨whole2, asRows (scales R.A)⟩] := rfl

def Mem.hid (n : Fin 12) : FVec Ideal S256x256 .f32 :=
  chunk R.C (scales R.A) (fetch R.arg26 R.harg26 (wnrect n) R.x25) (fetch R.arg27 R.harg27 (vnrect n) R.x26) (fetch R.arg28 R.harg28 (vnrect n) R.x27)
/-- The twelve chunks, the last first. -/
def chunks {α : Type} (f : Fin 12 → α) : List α := [f 11, f 10, f 9, f 8, f 7, f 6, f 5, f 4, f 3, f 2, f 1, f 0]
def Mem.hidPiece (n : Fin 12) : View.Piece (Elt Ideal) S256x3072 .f32 := ⟨nrect n, kept (R.hid n)⟩
theorem gL_eq : R.gL = chunks R.hidPiece := rfl

def Mem.B : FVec Ideal S256x1 .f32 :=
  maximumf (maximumf (maximumf (maximumf (maximumf (maximumf (maximumf (maximumf (maximumf (maximumf (maximumf
    (largest256 (R.hid 0)) (largest256 (R.hid 1))) (largest256 (R.hid 2))) (largest256 (R.hid 3))) (largest256 (R.hid 4))) (largest256 (R.hid 5)))
    (largest256 (R.hid 6))) (largest256 (R.hid 7))) (largest256 (R.hid 8))) (largest256 (R.hid 9))) (largest256 (R.hid 10))) (largest256 (R.hid 11))
theorem gsL_eq : R.gsL = [⟨whole2, asRows (scales R.B)⟩] := rfl
def Mem.codePiece (n : Fin 12) : View.Piece (Elt Ideal) S256x3072 .fp8e4m3 :=
  ⟨nrect n, codes256 (R.arg47.view.readCov R.gL (nrect n).toLoadRect) (invs R.B)⟩
theorem gcL_eq : R.gcL = chunks R.codePiece := rfl
theorem gcLL_eq : R.gcLL = R.gcL := rfl

theorem outL_eq : R.outL = [⟨whole2, last (R.arg43.view.readCov R.h2L whole2.toLoadRect)
    (ffnOut (R.arg37.view.readCov R.gcL whole2.toLoadRect) (scales R.B) (fetch R.arg29 R.harg29 whole2 R.x28) (fetch R.arg30 R.harg30 whole2 R.x29)
      (fetch R.arg31 R.harg31 whole2 R.x30)) (fetch R.arg32 R.harg32 whole2 R.x31) (fetch R.arg33 R.harg33 whole2 R.x32)⟩] := rfl

end Cert.KernelIdeal.Blk
-- ==== Proof.KTiles.lean ====
/-
  Loads of whole buffers and of parts of them, and what buffers written piece by piece hold.
-/
module

public import proofs.«01_k».proof.Proof.KBridgeCross
public import proofs.«01_k».proof.Proof.KBridgeFfn

@[expose] public section

set_option maxRecDepth 16384

noncomputable section

namespace Cert.KernelIdeal.Blk

open Idealize.ShloMosaic Cert.KernelIdeal Cert.KernelIdeal.Gen QFormer

theorem exists_wide (c : Fin 768) : ∃ g c', c = wide g c' :=
  ⟨⟨c.val / 256, by omega⟩, ⟨c.val % 256, by omega⟩, Fin.ext (by simp only [wide]; omega)⟩
theorem exists_brow (r : Fin 256) : ∃ b s, r = brow b s :=
  ⟨⟨r.val / 32, by omega⟩, ⟨r.val % 32, by omega⟩, Fin.ext (by simp only [brow]; omega)⟩

/-! ### Loads -/

theorem fetch_apply {S : Shape} {e : EltTy} (A : Memref sig .tc .vmem S e) (h : A.IsWhole) (r : Rect S) (x : Vec Ideal S e) (y : r.shape.Idx) :
    View.readAt (Elt Ideal) A.view r.toLoadRect (h.unread x) y = x (r.emb y) := by
  rw [View.readAt_eq_ld, h.read_unread]; rfl
theorem whole2_emb {m n : ℕ} (y : (⟨2, ![m, n]⟩ : Shape).Idx) : (whole2 (m := m) (n := n)).emb y = y := by
  funext a; apply Fin.ext; fin_cases a
  · show 0 + 1 * _ = _; omega
  · show 0 + 1 * _ = _; omega
theorem fetch_whole {m n : ℕ} {e : EltTy} (A : Memref sig .tc .vmem ⟨2, ![m, n]⟩ e) (h : A.IsWhole) (x : Vec Ideal ⟨2, ![m, n]⟩ e) :
    fetch A h whole2 x = x :=
  funext fun y => (fetch_apply A h whole2 x y).trans (congrArg x (whole2_emb y))

/-! ### The elements a rectangle holds -/

theorem grect_emb (b : Fin 8) (g : Fin 3) (i : Fin 32) (c : Fin 256) : (grect b g).emb (ix2 i c) = ix2 (brow b i) (wide g c) := by
  funext a; apply Fin.ext; fin_cases a
  · show b.val * 32 + 1 * i.val = b.val * 32 + i.val; omega
  · show g.val * 256 + 1 * c.val = g.val * 256 + c.val; omega
theorem hrect_emb (b : Fin 8) (g : Fin 3) (t : Fin 2) (i : Fin 32) (l : Fin 128) :
    (hrect b g t).emb (ix2 i l) = ix2 (brow b i) (wide g ⟨t.val * 128 + l.val, by omega⟩) := by
  funext a; apply Fin.ext; fin_cases a
  · show b.val * 32 + 1 * i.val = b.val * 32 + i.val; omega
  · show g.val * 256 + t.val * 128 + 1 * l.val = g.val * 256 + (t.val * 128 + l.val); omega
theorem crect_emb (b : Fin 8) (g : Fin 3) (j c : Fin 256) : (crect b g).emb (ix3 0 j c) = ix3 ⟨b.val % 2, by omega⟩ j (wide g c) := by
  funext a; apply Fin.ext; fin_cases a
  · show b.val % 2 + 1 * 0 = b.val % 2; omega
  · show 0 + 1 * j.val = j.val; omega
  · show g.val * 256 + 1 * c.val = g.val * 256 + c.val; omega
theorem irect_emb (b : Fin 8) (j : Fin 256) (i : Fin 1408) : (irect b).emb (ix3 0 j i) = ix3 b j i := by
  funext a; apply Fin.ext; fin_cases a
  · show b.val + 1 * 0 = b.val; omega
  · show 0 + 1 * j.val = j.val; omega
  · show 0 + 1 * i.val = i.val; omega
theorem wrect_emb (g : Fin 3) (i : Fin 1408) (c : Fin 256) : (wrect g).emb (ix2 i c) = ix2 i (wide g c) := by
  funext a; apply Fin.ext; fin_cases a
  · show 0 + 1 * i.val = i.val; omega
  · show g.val * 256 + 1 * c.val = g.val * 256 + c.val; omega
theorem vrect_emb (g : Fin 3) (c : Fin 256) : (vrect g).emb (ix2 0 c) = ix2 0 (wide g c) := by
  funext a; apply Fin.ext; fin_cases a
  · rfl
  · show g.val * 256 + 1 * c.val = g.val * 256 + c.val; omega
theorem srect_emb (b : Fin 8) (g : Fin 3) (c : Fin 256) : (srect b g).emb (ix2 0 c) = ix2 b (wide g c) := by
  funext a; apply Fin.ext; fin_cases a
  · show b.val + 1 * 0 = b.val; omega
  · show g.val * 256 + 1 * c.val = g.val * 256 + c.val; omega
theorem shrect_emb (b : Fin 8) (g : Fin 3) (t : Fin 2) (l : Fin 128) :
    (shrect b g t).emb (ix2 0 l) = ix2 b (wide g ⟨t.val * 128 + l.val, by omega⟩) := by
  funext a; apply Fin.ext; fin_cases a
  · show b.val + 1 * 0 = b.val; omega
  · show g.val * 256 + t.val * 128 + 1 * l.val = g.val * 256 + (t.val * 128 + l.val); omega
theorem tokRect_emb (b : Fin 8) (j : Fin 256) : tokRect.emb (ix2 b j) = ix2 b ⟨j.val, by omega⟩ := by
  funext a; apply Fin.ext; fin_cases a
  · show 0 + 1 * b.val = b.val; omega
  · show 0 + 1 * j.val = j.val; omega
theorem nrect_emb (n : Fin 12) (r c : Fin 256) : (nrect n).emb (ix2 r c) = ix2 r (chcol n c) := by
  funext a; apply Fin.ext; fin_cases a
  · show 0 + 1 * r.val = r.val; omega
  · show n.val * 256 + 1 * c.val = n.val * 256 + c.val; omega
theorem wnrect_emb (n : Fin 12) (i : Fin 768) (c : Fin 256) : (wnrect n).emb (ix2 i c) = ix2 i (chcol n c) := by
  funext a; apply Fin.ext; fin_cases a
  · show 0 + 1 * i.val = i.val; omega
  · show n.val * 256 + 1 * c.val = n.val * 256 + c.val; omega
theorem vnrect_emb (n : Fin 12) (c : Fin 256) : (vnrect n).emb (ix2 0 c) = ix2 0 (chcol n c) := by
  funext a; apply Fin.ext; fin_cases a
  · rfl
  · show n.val * 256 + 1 * c.val = n.val * 256 + c.val; omega

/-! ### Buffers written piece by piece -/

/-- Where the later writes cover, the earlier ones do not show. -/
theorem canon_append {S : Shape} {e : EltTy} (L L' : List (View.Piece (Elt Ideal) S e)) (y : S.Idx) (h : ∃ p ∈ L, y ∈ p.1.set) :
    View.canon (L ++ L') y = View.canon L y := by
  induction L with
  | nil => obtain ⟨p, hp, _⟩ := h; simp at hp
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem p _ hm, View.canon_cons_of_not_mem p _ hm]
      apply ih
      obtain ⟨q, hq, hy⟩ := h
      rcases List.mem_cons.1 hq with rfl | hq
      · exact absurd hy hm
      · exact ⟨q, hq, hy⟩

theorem canon_whole {m n : ℕ} {e : EltTy} (w : (⟨2, ![m, n]⟩ : Shape).Idx → Elt Ideal e) (L : List (View.Piece (Elt Ideal) ⟨2, ![m, n]⟩ e)) :
    View.canon (⟨whole2, w⟩ :: L) = w :=
  funext fun y => by
    have h := View.canon_cons_emb whole2 w L y
    rw [whole2_emb] at h
    exact h
theorem readCov_apply {S : Shape} {e : EltTy} (A : Memref sig .tc .vmem S e) (L : List (View.Piece (Elt Ideal) S e)) (r : Rect S) (y : r.shape.Idx) :
    A.view.readCov L r.toLoadRect y = View.canon L (r.emb y) := by
  rw [View.readCov_eq_canon']; rfl
theorem readCov_whole {m n : ℕ} {e : EltTy} (A : Memref sig .tc .vmem ⟨2, ![m, n]⟩ e) (L : List (View.Piece (Elt Ideal) ⟨2, ![m, n]⟩ e)) :
    A.view.readCov L whole2.toLoadRect = View.canon L :=
  funext fun y => (readCov_apply A L whole2 y).trans (congrArg (View.canon L) (whole2_emb y))

theorem mem_each {α : Type} (f : Fin 8 → Fin 3 → α) (b : Fin 8) (g : Fin 3) : f b g ∈ each f := by
  fin_cases b <;> fin_cases g <;> simp [each]
theorem of_mem_each {α : Type} {f : Fin 8 → Fin 3 → α} {p : α} (h : p ∈ each f) : ∃ b g, p = f b g := by
  simp only [each, List.mem_cons, List.not_mem_nil, or_false] at h
  rcases h with h | h | h | h | h | h | h | h | h | h | h | h | h | h | h | h | h | h | h | h | h | h | h | h <;> exact ⟨_, _, h⟩
theorem mem_chunks {α : Type} (f : Fin 12 → α) (n : Fin 12) : f n ∈ chunks f := by
  fin_cases n <;> simp [chunks]
theorem of_mem_chunks {α : Type} {f : Fin 12 → α} {p : α} (h : p ∈ chunks f) : ∃ n, p = f n := by
  simp only [chunks, List.mem_cons, List.not_mem_nil, or_false] at h
  rcases h with h | h | h | h | h | h | h | h | h | h | h | h <;> exact ⟨_, h⟩

/-- Pieces that are the tiles of one array hold that array, wherever one of them lies. -/
theorem canon_at {S : Shape} {e : EltTy} (G : S.Idx → Elt Ideal e) (L : List (View.Piece (Elt Ideal) S e))
    (h : ∀ p ∈ L, ∀ x : p.1.shape.Idx, p.2 x = G (p.1.emb x)) (y : S.Idx) (p : View.Piece (Elt Ideal) S e) (hp : p ∈ L) (x : p.1.shape.Idx)
    (hx : p.1.emb x = y) : View.canon L y = G y :=
  View.canon_apply_of_pieces G L h y ⟨p, hp, hx ▸ p.1.toLoadRect.idx_mem x⟩

end Cert.KernelIdeal.Blk
-- ==== Proof.KBlock.lean ====
/-
  What one run of the kernel's body computes: the layer of its eight sequences.
-/
module

public import proofs.«01_k».proof.Proof.KTiles

@[expose] public section

set_option maxRecDepth 16384

noncomputable section

open scoped BigOperators

namespace Cert.KernelIdeal.Blk

open Idealize.ShloMosaic Cert.KernelIdeal Cert.KernelIdeal.Gen QFormer

variable (R : Mem)

/-- The weights the run is given. -/
def Mem.W : Weights where
  wsq := asMat R.x5
  wsk := asMat R.x6
  wsv := asMat R.x7
  wso := asMat R.x8
  bsq := asMat R.x9 0
  bsv := asMat R.x10 0
  bso := asMat R.x11 0
  g1 := asMat R.x12 0
  b1 := asMat R.x13 0
  wcq := asMat R.x14
  wco := asMat R.x15
  bcq := asMat R.x16 0
  bco := asMat R.x17 0
  wck := asMat R.x18
  wcv := asMat R.x19
  sck := asMat R.x20 0
  scv := asMat R.x21 0
  bcv := asMat R.x22 0
  g2 := asMat R.x23 0
  b2 := asMat R.x24 0
  wf1 := asMat R.x25
  sf1 := asMat R.x26 0
  bf1 := asMat R.x27 0
  wf2 := asMat R.x28
  sf2 := asMat R.x29 0
  bf2 := asMat R.x30 0
  g3 := asMat R.x31 0
  b3 := asMat R.x32 0
/-- What sequence `b` of the block brings. -/
def Mem.S (b : Fin 8) : Seq where
  x := fun s c => R.x0 (ix2 (brow b s) c)
  img := fun j i => R.x1 (ix3 b j i)
  isc := fun j => R.x2 (ix2 b ⟨j.val, by omega⟩)
  kext := asMat R.x3 b
  vext := asMat R.x4 b

/-- An array of 256 rows, from the rows of its sequences. -/
def asm {n : ℕ} (F : Fin 8 → Fin 32 → Row n) : (⟨2, ![256, n]⟩ : Shape).Idx → EReal := fun y =>
  let r : Fin 256 := y 0
  F ⟨r.val / 32, by have := r.isLt; omega⟩ ⟨r.val % 32, by omega⟩ (y 1)
theorem asm_apply {n : ℕ} (F : Fin 8 → Fin 32 → Row n) (b : Fin 8) (s : Fin 32) (c : Fin n) : asm F (ix2 (brow b s) c) = F b s c := by
  have hb : (⟨(brow b s).val / 32, by omega⟩ : Fin 8) = b := Fin.ext (by simp only [brow]; omega)
  have hs : (⟨(brow b s).val % 32, by omega⟩ : Fin 32) = s := Fin.ext (by simp only [brow]; omega)
  show F (⟨(brow b s).val / 32, _⟩ : Fin 8) (⟨(brow b s).val % 32, _⟩ : Fin 32) c = _
  rw [hb, hs]

/-! ### Self-attention -/

theorem X_apply (b : Fin 8) (s : Fin 32) (c : Fin 768) : R.X (ix2 (brow b s) c) = (R.S b).x s c := by
  have h : R.X = R.x0 := by
    unfold Mem.X
    rw [fetch_whole]
    exact shapeCast_self (s := S256x768) R.x0 _
  rw [h]; rfl
theorem asMat_X (b : Fin 8) (s : Fin 32) : asMat R.X (brow b s) = (R.S b).x s := funext fun c => X_apply R b s c

theorem qL_eq' : View.canon R.qL = stored (affine R.X R.x5 R.x9) := by
  rw [qL_eq, canon_whole, fetch_whole, fetch_whole]
theorem q_apply (b : Fin 8) (g : Fin 3) (i : Fin 32) (c : Fin 256) :
    R.arg39.view.readCov R.qL (grect b g).toLoadRect (ix2 i c) = selfQ R.W (R.S b) i (wide g c) := by
  refine (readCov_apply R.arg39 _ (grect b g) (ix2 i c)).trans ?_
  rw [grect_emb, qL_eq', stored_apply, affine_apply, asMat_X]; rfl
theorem kL_eq' : View.canon R.kL = stored (lin R.X R.x6) := by
  rw [kL_eq, canon_whole, fetch_whole]
theorem k_apply (b : Fin 8) (g : Fin 3) (i : Fin 32) (c : Fin 256) :
    R.arg40.view.readCov R.kL (grect b g).toLoadRect (ix2 i c) = selfK R.W (R.S b) i (wide g c) := by
  refine (readCov_apply R.arg40 _ (grect b g) (ix2 i c)).trans ?_
  rw [grect_emb, kL_eq', stored_apply, lin_apply, asMat_X]; rfl
theorem vL_eq' : View.canon R.vL = stored (affine R.X R.x7 R.x10) := by
  rw [vL_eq, canon_whole, fetch_whole, fetch_whole]
theorem v_apply (b : Fin 8) (g : Fin 3) (i : Fin 32) (c : Fin 256) :
    R.arg41.view.readCov R.vL (grect b g).toLoadRect (ix2 i c) = selfV R.W (R.S b) i (wide g c) := by
  refine (readCov_apply R.arg41 _ (grect b g) (ix2 i c)).trans ?_
  rw [grect_emb, vL_eq', stored_apply, affine_apply, asMat_X]; rfl

theorem ctx_apply (b : Fin 8) (i : Fin 32) (c : Fin 768) : View.canon R.ctxL (ix2 (brow b i) c) = ctx1 R.W (R.S b) i c := by
  obtain ⟨g, c, rfl⟩ := exists_wide c
  rw [ctxL_eq]
  refine (canon_at (asm fun b s => ctx1 R.W (R.S b) s) _ ?_ _ _ (mem_each R.selfPiece b g) (ix2 i c) (grect_emb b g i c)).trans (asm_apply _ _ _ _)
  intro p hp x
  obtain ⟨b, g, rfl⟩ := of_mem_each hp
  obtain ⟨i, c, rfl⟩ : ∃ (i : Fin 32) (c : Fin 256), x = ix2 i c := ⟨x 0, x 1, eq_ix2 x⟩
  have e : (R.selfPiece b g).1.emb (ix2 i c) = ix2 (brow b i) (wide g c) := grect_emb b g i c
  rw [e, asm_apply]
  exact selfGroup_apply _ _ _ g _ _ _ (q_apply R b g) (k_apply R b g) (v_apply R b g) i c
theorem asMat_ctx (b : Fin 8) (i : Fin 32) : asMat (View.canon R.ctxL) (brow b i) = ctx1 R.W (R.S b) i := funext fun c => ctx_apply R b i c

theorem H1_eq : R.H1 = afterSelf R.X (View.canon R.ctxL) R.x8 R.x11 R.x12 R.x13 := by
  unfold Mem.H1
  rw [readCov_whole, fetch_whole, fetch_whole, fetch_whole, fetch_whole]
theorem H1_apply (b : Fin 8) (i : Fin 32) (c : Fin 768) : R.H1 (ix2 (brow b i) c) = h1 R.W (R.S b) i c := by
  rw [H1_eq, afterSelf_apply, asMat_ctx]
  simp only [X_apply]; rfl
theorem asMat_H1 (b : Fin 8) (i : Fin 32) : asMat R.H1 (brow b i) = h1 R.W (R.S b) i := funext fun c => H1_apply R b i c

/-! ### Cross-attention -/

theorem cqL_eq' : View.canon R.cqL = stored (affine (truncf .bf16 R.H1 bitsLt_bf16_f32) R.x14 R.x16) := by
  rw [cqL_eq, canon_whole, fetch_whole, fetch_whole]
theorem cq_apply (b : Fin 8) (g : Fin 3) (i : Fin 32) (c : Fin 256) :
    R.arg44.view.readCov R.cqL (grect b g).toLoadRect (ix2 i c) = crossQ R.W (R.S b) i (wide g c) := by
  refine (readCov_apply R.arg44 _ (grect b g) (ix2 i c)).trans ?_
  rw [grect_emb, cqL_eq', stored_apply, affine_apply]
  show proj (asMat R.H1 (brow b i)) _ _ + _ = _
  rw [asMat_H1]; rfl

theorem img_apply (b : Fin 8) (j : Fin 256) (i : Fin 1408) : R.img b (ix3 0 j i) = (R.S b).img j i :=
  (fetch_apply R.arg2 R.harg2 (irect b) R.x1 (ix3 0 j i)).trans (congrArg R.x1 (irect_emb b j i))
theorem tok_apply (b : Fin 8) (j : Fin 256) : R.tok b (ix2 j 0) = (R.S b).isc j :=
  (tokScales_apply _ b j).trans ((fetch_apply R.arg3 R.harg3 tokRect R.x2 (ix2 b j)).trans (congrArg R.x2 (tokRect_emb b j)))
theorem weight_apply (A : Memref sig .tc .vmem S1408x768 .fp8e4m3) (h : A.IsWhole) (x : Vec Ideal S1408x768 .fp8e4m3) (g : Fin 3) (i : Fin 1408)
    (c : Fin 256) : View.readAt (Elt Ideal) A.view (wrect g).toLoadRect (h.unread x) (ix2 i c) = asMat x i (wide g c) :=
  (fetch_apply A h (wrect g) x (ix2 i c)).trans (congrArg x (wrect_emb g i c))
theorem vec_apply (A : Memref sig .tc .vmem S1x768 .f32) (h : A.IsWhole) (x : Vec Ideal S1x768 .f32) (g : Fin 3) (c : Fin 256) :
    View.readAt (Elt Ideal) A.view (vrect g).toLoadRect (h.unread x) (ix2 0 c) = asMat x 0 (wide g c) :=
  (fetch_apply A h (vrect g) x (ix2 0 c)).trans (congrArg x (vrect_emb g c))

/-- Either slot, read where the newest three pieces lie. -/
theorem slot_apply (A : Memref sig .tc .vmem S2x256x768 .bf16) (L : List (View.Piece (Elt Ideal) S2x256x768 .bf16)) (b : Fin 8)
    (w : Fin 3 → FVec Ideal S1x256x256 .bf16) (M : Mat 256 768) (hw : ∀ g j c, w g (ix3 0 j c) = M j (wide g c)) (g : Fin 3) (j c : Fin 256) :
    A.view.readCov (⟨crect b 2, w 2⟩ :: ⟨crect b 1, w 1⟩ :: ⟨crect b 0, w 0⟩ :: L) (crect b g).toLoadRect (ix3 0 j c) = M j (wide g c) := by
  refine (readCov_apply A _ (crect b g) (ix3 0 j c)).trans ?_
  let f : Fin 3 → View.Piece (Elt Ideal) S2x256x768 .bf16 := fun g => ⟨crect b g, w g⟩
  have hm : f g ∈ [f 2, f 1, f 0] := by fin_cases g <;> simp
  refine (canon_append [f 2, f 1, f 0] L _ ⟨f g, hm, (crect b g).toLoadRect.idx_mem (ix3 0 j c)⟩).trans ?_
  refine (canon_at (fun y => M (y 1) (y 2)) _ ?_ _ _ hm (ix3 0 j c) rfl).trans
    (congrArg (fun y : S2x256x768.Idx => M (y 1) (y 2)) (crect_emb b g j c))
  intro p hp x
  have hp' : ∃ g, p = f g := by
    simp only [List.mem_cons, List.not_mem_nil, or_false] at hp
    rcases hp with h | h | h <;> exact ⟨_, h⟩
  obtain ⟨g, rfl⟩ := hp'
  obtain ⟨j, c, rfl⟩ : ∃ (j c : Fin 256), x = ix3 0 j c := ⟨x 1, x 2, by
    refine (eq_ix3 x).trans ?_
    congr 1
    exact Subsingleton.elim (α := Fin 1) _ _⟩
  have e : (f g).1.emb (ix3 0 j c) = ix3 ⟨b.val % 2, by omega⟩ j (wide g c) := crect_emb b g j c
  rw [e]
  exact hw g j c

theorem key_apply (b : Fin 8) (g : Fin 3) (j c : Fin 256) :
    R.arg45.view.readCov (R.ck b) (crect b g).toLoadRect (ix3 0 j c) = imgK R.W (R.S b) j (wide g c) := by
  obtain ⟨L, hL⟩ := ck_eq R b
  rw [hL]
  refine slot_apply R.arg45 L b (fun g => (R.keyPiece b g).2) _ (fun g j c => ?_) g j c
  refine (imgKey_apply _ _ _ _ j c).trans ((imgProj_apply _ _ _ _ j c).trans ?_)
  simp only [img_apply, tok_apply, weight_apply, vec_apply]; rfl
theorem val_apply (b : Fin 8) (g : Fin 3) (j c : Fin 256) :
    R.arg46.view.readCov (R.cv b) (crect b g).toLoadRect (ix3 0 j c) = imgV R.W (R.S b) j (wide g c) := by
  obtain ⟨L, hL⟩ := cv_eq R b
  rw [hL]
  refine slot_apply R.arg46 L b (fun g => (R.valPiece b g).2) _ (fun g j c => ?_) g j c
  refine (imgVal_apply _ _ _ _ _ j c).trans ((congrArg (· + _) (imgProj_apply _ _ _ _ j c)).trans ?_)
  simp only [img_apply, tok_apply, weight_apply, vec_apply]; rfl

theorem kext_apply (b : Fin 8) (g : Fin 3) (c : Fin 256) :
    View.readAt (Elt Ideal) R.arg4.view (srect b g).toLoadRect (R.harg4.unread R.x3) (ix2 0 c) = (R.S b).kext (wide g c) :=
  (fetch_apply R.arg4 R.harg4 (srect b g) R.x3 (ix2 0 c)).trans (congrArg R.x3 (srect_emb b g c))
theorem vext_apply (b : Fin 8) (g : Fin 3) (t : Fin 2) (l : Fin 128) :
    View.readAt (Elt Ideal) R.arg5.view (shrect b g t).toLoadRect (R.harg5.unread R.x4) (ix2 0 l)
      = (R.S b).vext (wide g ⟨t.val * 128 + l.val, by omega⟩) :=
  (fetch_apply R.arg5 R.harg5 (shrect b g t) R.x4 (ix2 0 l)).trans (congrArg R.x4 (shrect_emb b g t l))

theorem firstHalf (l : Fin 128) : (⟨l.val, by omega⟩ : Fin 256) = ⟨(0 : Fin 2).val * 128 + l.val, by simp; omega⟩ := Fin.ext (by simp)
theorem secondHalf (l : Fin 128) : (⟨128 + l.val, by omega⟩ : Fin 256) = ⟨(1 : Fin 2).val * 128 + l.val, by simp; omega⟩ := Fin.ext (by simp)

theorem pieceL_apply (b : Fin 8) (g : Fin 3) (i : Fin 32) (l : Fin 128) :
    (R.leftPiece b g).2 (ix2 i l) = ctx2 R.W (R.S b) i (wide g ⟨(0 : Fin 2).val * 128 + l.val, by simp; omega⟩) := by
  rw [← firstHalf]
  exact crossLeft_apply _ _ _ _ g _ _ _ _ (R.S b).vext (cq_apply R b g) (key_apply R b g) (val_apply R b g) (kext_apply R b g) _
    (fun l => (vext_apply R b g 0 l).trans (by rw [firstHalf])) i l
theorem pieceR_apply (b : Fin 8) (g : Fin 3) (i : Fin 32) (l : Fin 128) :
    (R.rightPiece b g).2 (ix2 i l) = ctx2 R.W (R.S b) i (wide g ⟨(1 : Fin 2).val * 128 + l.val, by simp; omega⟩) := by
  rw [← secondHalf]
  exact crossRight_apply _ _ _ _ g _ _ _ _ (R.S b).vext (cq_apply R b g) (key_apply R b g) (val_apply R b g) (kext_apply R b g) _
    (fun l => (vext_apply R b g 1 l).trans (by rw [secondHalf])) i l

theorem ctx2_apply (b : Fin 8) (i : Fin 32) (c : Fin 768) : View.canon R.ctx2L (ix2 (brow b i) c) = ctx2 R.W (R.S b) i c := by
  obtain ⟨g, c, rfl⟩ := exists_wide c
  have hc : ∃ (t : Fin 2) (l : Fin 128), c = ⟨t.val * 128 + l.val, by omega⟩ :=
    ⟨⟨c.val / 128, by omega⟩, ⟨c.val % 128, by omega⟩, Fin.ext (by show c.val = c.val / 128 * 128 + c.val % 128; omega)⟩
  obtain ⟨t, l, rfl⟩ := hc
  rw [ctx2L_eq]
  have hmem : ∃ p ∈ (each fun b g => [R.rightPiece b g, R.leftPiece b g]).flatten, ∃ x : p.1.shape.Idx,
      p.1.emb x = ix2 (brow b i) (wide g ⟨t.val * 128 + l.val, by omega⟩) := by
    have hl := mem_each (fun b g => [R.rightPiece b g, R.leftPiece b g]) b g
    have ht : t = 0 ∨ t = 1 := by omega
    rcases ht with rfl | rfl
    · exact ⟨R.leftPiece b g, List.mem_flatten.2 ⟨_, hl, by simp⟩, (ix2 i l : (⟨2, ![32, 128]⟩ : Shape).Idx), hrect_emb b g 0 i l⟩
    · exact ⟨R.rightPiece b g, List.mem_flatten.2 ⟨_, hl, by simp⟩, (ix2 i l : (⟨2, ![32, 128]⟩ : Shape).Idx), hrect_emb b g 1 i l⟩
  obtain ⟨p, hp, x, hx⟩ := hmem
  refine (canon_append _ _ _ ⟨p, hp, hx ▸ p.1.toLoadRect.idx_mem x⟩).trans ?_
  refine (canon_at (asm fun b s => ctx2 R.W (R.S b) s) _ ?_ _ p hp x hx).trans (asm_apply _ _ _ _)
  intro p hp x
  obtain ⟨L, hL, hp⟩ := List.mem_flatten.1 hp
  obtain ⟨b, g, rfl⟩ := of_mem_each hL
  simp only [List.mem_cons, List.not_mem_nil, or_false] at hp
  rcases hp with rfl | rfl
  · obtain ⟨i, l, rfl⟩ : ∃ (i : Fin 32) (l : Fin 128), x = ix2 i l := ⟨x 0, x 1, eq_ix2 x⟩
    have e : (R.rightPiece b g).1.emb (ix2 i l) = _ := hrect_emb b g 1 i l
    rw [e, asm_apply]
    exact pieceR_apply R b g i l
  · obtain ⟨i, l, rfl⟩ : ∃ (i : Fin 32) (l : Fin 128), x = ix2 i l := ⟨x 0, x 1, eq_ix2 x⟩
    have e : (R.leftPiece b g).1.emb (ix2 i l) = _ := hrect_emb b g 0 i l
    rw [e, asm_apply]
    exact pieceL_apply R b g i l
theorem asMat_ctx2 (b : Fin 8) (i : Fin 32) : asMat (View.canon R.ctx2L) (brow b i) = ctx2 R.W (R.S b) i := funext fun c => ctx2_apply R b i c

theorem H2_eq : R.H2 = afterCross (keep R.H1) (View.canon R.ctx2L) R.x15 R.x17 R.x23 R.x24 := by
  have h : R.arg43.view.readCov R.h1L whole2.toLoadRect = keep R.H1 := by rw [readCov_whole, h1L_eq, canon_whole]
  unfold Mem.H2
  rw [h, readCov_whole, fetch_whole, fetch_whole, fetch_whole, fetch_whole]
theorem H2_apply (b : Fin 8) (i : Fin 32) (c : Fin 768) : R.H2 (ix2 (brow b i) c) = h2 R.W (R.S b) i c := by
  rw [H2_eq, afterCross_apply, asMat_ctx2]
  simp only [keep_apply, H1_apply]; rfl
theorem asMat_H2 (b : Fin 8) (i : Fin 32) : asMat R.H2 (brow b i) = h2 R.W (R.S b) i := funext fun c => H2_apply R b i c

/-! ### The quantised rows and the feed-forward network -/

theorem A_apply (b : Fin 8) (i : Fin 32) : R.A (ix2 (brow b i) 0) = absMax (h2 R.W (R.S b) i) := by
  unfold Mem.A; rw [largest768_apply, asMat_H2]
theorem A_nonneg (b : Fin 8) (i : Fin 32) : 0 ≤ R.A (ix2 (brow b i) 0) := by rw [A_apply]; exact absMax_nonneg _ 0
theorem C_apply (b : Fin 8) (i : Fin 32) (c : Fin 768) : R.C (ix2 (brow b i) c) = h2Codes R.W (R.S b) i c := by
  unfold Mem.C
  rw [codes768_apply, invs_apply _ _ (A_nonneg R b i), A_apply, H2_apply]; rfl
theorem scaleA_apply (b : Fin 8) (i : Fin 32) : scales R.A (ix2 (brow b i) 0) = h2Scale R.W (R.S b) i := by
  rw [scales_apply _ _ (A_nonneg R b i), A_apply]; rfl

theorem w1_apply (n : Fin 12) (i : Fin 768) (c : Fin 256) : fetch R.arg26 R.harg26 (wnrect n) R.x25 (ix2 i c) = R.W.wf1 i (chcol n c) :=
  (fetch_apply R.arg26 R.harg26 (wnrect n) R.x25 (ix2 i c)).trans (congrArg R.x25 (wnrect_emb n i c))
theorem s1_apply (n : Fin 12) (c : Fin 256) : fetch R.arg27 R.harg27 (vnrect n) R.x26 (ix2 0 c) = R.W.sf1 (chcol n c) :=
  (fetch_apply R.arg27 R.harg27 (vnrect n) R.x26 (ix2 0 c)).trans (congrArg R.x26 (vnrect_emb n c))
theorem b1_apply (n : Fin 12) (c : Fin 256) : fetch R.arg28 R.harg28 (vnrect n) R.x27 (ix2 0 c) = R.W.bf1 (chcol n c) :=
  (fetch_apply R.arg28 R.harg28 (vnrect n) R.x27 (ix2 0 c)).trans (congrArg R.x27 (vnrect_emb n c))

theorem hid_apply (n : Fin 12) (b : Fin 8) (i : Fin 32) (c : Fin 256) :
    R.hid n (ix2 (brow b i) c) = QFormer.hidden R.W (R.S b) i (chcol n c) := by
  refine (chunk_apply _ _ _ _ _ (brow b i) c).trans ?_
  simp only [C_apply, scaleA_apply, w1_apply, s1_apply, b1_apply]; rfl
theorem B_apply (b : Fin 8) (i : Fin 32) : R.B (ix2 (brow b i) 0) = absMax (QFormer.hidden R.W (R.S b) i) := by
  have h : ∀ n, largest256 (R.hid n) (ix2 (brow b i) 0) = absMax (fun c => QFormer.hidden R.W (R.S b) i (chcol n c)) := fun n => by
    rw [largest256_apply]
    exact congrArg absMax (funext fun c => hid_apply R n b i c)
  rw [← absMax_chunks]
  unfold running
  simp only [← h]; rfl
theorem B_nonneg (b : Fin 8) (i : Fin 32) : 0 ≤ R.B (ix2 (brow b i) 0) := by rw [B_apply]; exact absMax_nonneg _ 0
theorem scaleB_apply (b : Fin 8) (i : Fin 32) : scales R.B (ix2 (brow b i) 0) = gScale R.W (R.S b) i := by
  rw [scales_apply _ _ (B_nonneg R b i), B_apply]; rfl

theorem g_apply (b : Fin 8) (i : Fin 32) (j : Fin 3072) : View.canon R.gL (ix2 (brow b i) j) = QFormer.hidden R.W (R.S b) i j := by
  obtain ⟨n, c, rfl⟩ := exists_chcol j
  rw [gL_eq]
  refine (canon_at (asm fun b s => QFormer.hidden R.W (R.S b) s) _ ?_ _ _ (mem_chunks R.hidPiece n) (ix2 (brow b i) c) (nrect_emb n (brow b i) c)).trans
    (asm_apply _ _ _ _)
  intro p hp x
  obtain ⟨n, rfl⟩ := of_mem_chunks hp
  obtain ⟨r, c, rfl⟩ : ∃ (r c : Fin 256), x = ix2 r c := ⟨x 0, x 1, eq_ix2 x⟩
  obtain ⟨b, i, rfl⟩ := exists_brow r
  have e : (R.hidPiece n).1.emb (ix2 (brow b i) c) = _ := nrect_emb n (brow b i) c
  rw [e, asm_apply]
  exact (kept_apply (R.hid n) (brow b i) c).trans (hid_apply R n b i c)
theorem gc_apply (b : Fin 8) (i : Fin 32) (j : Fin 3072) : View.canon R.gcL (ix2 (brow b i) j) = gCodes R.W (R.S b) i j := by
  obtain ⟨n, c, rfl⟩ := exists_chcol j
  rw [gcL_eq]
  refine (canon_at (asm fun b s => gCodes R.W (R.S b) s) _ ?_ _ _ (mem_chunks R.codePiece n) (ix2 (brow b i) c) (nrect_emb n (brow b i) c)).trans
    (asm_apply _ _ _ _)
  intro p hp x
  obtain ⟨n, rfl⟩ := of_mem_chunks hp
  obtain ⟨r, c, rfl⟩ : ∃ (r c : Fin 256), x = ix2 r c := ⟨x 0, x 1, eq_ix2 x⟩
  obtain ⟨b, i, rfl⟩ := exists_brow r
  have e : (R.codePiece n).1.emb (ix2 (brow b i) c) = _ := nrect_emb n (brow b i) c
  rw [e, asm_apply]
  refine (codes256_apply _ _ (brow b i) c).trans ?_
  have hr : R.arg47.view.readCov R.gL (nrect n).toLoadRect (ix2 (brow b i) c) = QFormer.hidden R.W (R.S b) i (chcol n c) :=
    (readCov_apply R.arg47 R.gL (nrect n) (ix2 (brow b i) c)).trans (by rw [nrect_emb, g_apply])
  rw [hr, invs_apply _ _ (B_nonneg R b i), B_apply]; rfl
theorem asMat_gc (b : Fin 8) (i : Fin 32) : asMat (View.canon R.gcL) (brow b i) = gCodes R.W (R.S b) i := funext fun c => gc_apply R b i c

/-! ### The five results -/

theorem outL_eq' : View.canon R.outL
    = last (keep R.H2) (ffnOut (View.canon R.gcL) (scales R.B) R.x28 R.x29 R.x30) R.x31 R.x32 := by
  have h : R.arg43.view.readCov R.h2L whole2.toLoadRect = keep R.H2 := by rw [readCov_whole, h2L_eq, canon_whole]
  rw [outL_eq, canon_whole, h, readCov_whole, fetch_whole, fetch_whole, fetch_whole, fetch_whole, fetch_whole]
theorem out_apply (b : Fin 8) (i : Fin 32) (c : Fin 768) : View.canon R.outL (ix2 (brow b i) c) = QFormer.out R.W (R.S b) i c := by
  rw [outL_eq', last_apply]
  simp only [keep_apply, H2_apply, ffnOut_apply, asMat_gc, scaleB_apply]; rfl
theorem h2c_apply (b : Fin 8) (i : Fin 32) (c : Fin 768) : View.canon R.h2cL (ix2 (brow b i) c) = h2Codes R.W (R.S b) i c := by
  rw [h2cL_eq, canon_whole]; exact C_apply R b i c
theorem h2s_apply (b : Fin 8) (i : Fin 32) : View.canon R.h2sL (ix2 b i) = h2Scale R.W (R.S b) i := by
  rw [h2sL_eq, canon_whole]; exact (asRows_apply _ b i).trans (scaleA_apply R b i)
theorem gcl_apply (b : Fin 8) (i : Fin 32) (c : Fin 3072) : View.canon R.gcLL (ix2 (brow b i) c) = gCodes R.W (R.S b) i c := by
  rw [gcLL_eq]; exact gc_apply R b i c
theorem gs_apply (b : Fin 8) (i : Fin 32) : View.canon R.gsL (ix2 b i) = gScale R.W (R.S b) i := by
  rw [gsL_eq, canon_whole]; exact (asRows_apply _ b i).trans (scaleB_apply R b i)

end Cert.KernelIdeal.Blk
-- ==== Proof.Args.lean ====
/-
  The arguments both programs take, and the five results as arrays, from the layer of each sequence.
-/
module

public import proofs.«01_k».proof.Proof.Literals
public import proofs.«01_k».proof.Proof.Spec

@[expose] public section

noncomputable section

namespace QFormer

open Idealize.ShloMosaic

/-- An array of numbers. -/
abbrev Tensor (r : ℕ) (s : Fin r → ℕ) : Type := (⟨r, s⟩ : Shape).Idx → EReal

/-- The 33 arguments, in the order both programs take them. -/
structure Args where
  x : Tensor 3 ![512, 32, 768]
  img : Tensor 3 ![512, 257, 1408]
  isc : Tensor 2 ![512, 257]
  kext : Tensor 2 ![512, 768]
  vext : Tensor 2 ![512, 768]
  wsq : Tensor 2 ![768, 768]
  wsk : Tensor 2 ![768, 768]
  wsv : Tensor 2 ![768, 768]
  wso : Tensor 2 ![768, 768]
  bsq : Tensor 1 ![768]
  bsv : Tensor 1 ![768]
  bso : Tensor 1 ![768]
  g1 : Tensor 1 ![768]
  b1 : Tensor 1 ![768]
  wcq : Tensor 2 ![768, 768]
  wco : Tensor 2 ![768, 768]
  bcq : Tensor 1 ![768]
  bco : Tensor 1 ![768]
  wck : Tensor 2 ![1408, 768]
  wcv : Tensor 2 ![1408, 768]
  sck : Tensor 1 ![768]
  scv : Tensor 1 ![768]
  bcv : Tensor 1 ![768]
  g2 : Tensor 1 ![768]
  b2 : Tensor 1 ![768]
  wf1 : Tensor 2 ![768, 3072]
  sf1 : Tensor 1 ![3072]
  bf1 : Tensor 1 ![3072]
  wf2 : Tensor 2 ![3072, 768]
  sf2 : Tensor 1 ![768]
  bf2 : Tensor 1 ![768]
  g3 : Tensor 1 ![768]
  b3 : Tensor 1 ![768]

namespace Args

variable (A : Args)

/-- The weights among the arguments. -/
def W : Weights where
  wsq := asMat A.wsq
  wsk := asMat A.wsk
  wsv := asMat A.wsv
  wso := asMat A.wso
  bsq := fun c => A.bsq (ix1 c)
  bsv := fun c => A.bsv (ix1 c)
  bso := fun c => A.bso (ix1 c)
  g1 := fun c => A.g1 (ix1 c)
  b1 := fun c => A.b1 (ix1 c)
  wcq := asMat A.wcq
  wco := asMat A.wco
  bcq := fun c => A.bcq (ix1 c)
  bco := fun c => A.bco (ix1 c)
  wck := asMat A.wck
  wcv := asMat A.wcv
  sck := fun c => A.sck (ix1 c)
  scv := fun c => A.scv (ix1 c)
  bcv := fun c => A.bcv (ix1 c)
  g2 := fun c => A.g2 (ix1 c)
  b2 := fun c => A.b2 (ix1 c)
  wf1 := asMat A.wf1
  sf1 := fun c => A.sf1 (ix1 c)
  bf1 := fun c => A.bf1 (ix1 c)
  wf2 := asMat A.wf2
  sf2 := fun c => A.sf2 (ix1 c)
  bf2 := fun c => A.bf2 (ix1 c)
  g3 := fun c => A.g3 (ix1 c)
  b3 := fun c => A.b3 (ix1 c)
/-- What sequence `b` brings; the 257th image token comes with its key and value computed. -/
def S (b : Fin 512) : Seq where
  x := fun s c => A.x (ix3 b s c)
  img := fun j i => A.img (ix3 b ⟨j.val, by omega⟩ i)
  isc := fun j => A.isc (ix2 b ⟨j.val, by omega⟩)
  kext := asMat A.kext b
  vext := asMat A.vext b

end Args

/-- Row `r` of the rows of all sequences, one under the other. -/
def stackRow {n : ℕ} (F : Fin 512 → Fin 32 → Row n) (r : Fin 16384) : Row n := F ⟨r.val / 32, by omega⟩ ⟨r.val % 32, by omega⟩
theorem stackRow_at {n : ℕ} (F : Fin 512 → Fin 32 → Row n) (r : Fin 16384) (b : Fin 512) (s : Fin 32) (h : r.val = b.val * 32 + s.val) :
    stackRow F r = F b s := by
  have hb : (⟨r.val / 32, by omega⟩ : Fin 512) = b := Fin.ext (by show r.val / 32 = _; omega)
  have hs : (⟨r.val % 32, by omega⟩ : Fin 32) = s := Fin.ext (by show r.val % 32 = _; omega)
  unfold stackRow
  rw [hb, hs]
/-- The rows of all sequences, one under the other. -/
def stack {n : ℕ} (F : Fin 512 → Fin 32 → Row n) : Tensor 2 ![16384, n] := fun y => stackRow F (y 0) (y 1)
theorem stack_at {n : ℕ} (F : Fin 512 → Fin 32 → Row n) (y : (⟨2, ![16384, n]⟩ : Shape).Idx) (b : Fin 512) (s : Fin 32) (c : Fin n)
    (h0 : (y 0).val = b.val * 32 + s.val) (h1 : (y 1).val = c.val) : stack F y = F b s c := by
  have e1 : y 1 = c := Fin.ext h1
  exact (congrFun (stackRow_at F (y 0) b s h0) (y 1)).trans (congrArg (F b s) e1)
/-- One number for each row of each sequence. -/
def perRow (F : Fin 512 → Fin 32 → EReal) : Tensor 2 ![512, 32] := fun y => F (y 0) (y 1)
theorem perRow_at (F : Fin 512 → Fin 32 → EReal) (y : (⟨2, ![512, 32]⟩ : Shape).Idx) (b : Fin 512) (s : Fin 32)
    (h0 : (y 0).val = b.val) (h1 : (y 1).val = s.val) : perRow F y = F b s := by
  have e0 : y 0 = b := Fin.ext h0
  have e1 : y 1 = s := Fin.ext h1
  exact congr (congrArg F e0) e1

/-- The five results, of the arguments. -/
def outArr (A : Args) : Tensor 2 ![16384, 768] := stack fun b s => out A.W (A.S b) s
def h2CodesArr (A : Args) : Tensor 2 ![16384, 768] := stack fun b s => h2Codes A.W (A.S b) s
def h2ScaleArr (A : Args) : Tensor 2 ![512, 32] := perRow fun b s => h2Scale A.W (A.S b) s
def gCodesArr (A : Args) : Tensor 2 ![16384, 3072] := stack fun b s => gCodes A.W (A.S b) s
def gScaleArr (A : Args) : Tensor 2 ![512, 32] := perRow fun b s => gScale A.W (A.S b) s

end QFormer
-- ==== Proof.KInputs.lean ====
/-
  What the kernel's runs are given, from the arguments: the weights whole, and eight sequences a run.
-/
module

public import proofs.«01_k».proof.Proof.KBlock
public import proofs.«01_k».proof.Proof.Args
public import Idealize.ShloMosaic.Lib.Pipeline.ValueKit
public import Idealize.ShloMosaic.Lib.Pointwise

@[expose] public section

set_option maxRecDepth 16384

noncomputable section

namespace Cert.KernelIdeal.Blk

open Idealize.ShloMosaic Idealize.ShloMosaic.TcCoe Cert.KernelIdeal Cert.KernelIdeal.Gen QFormer

variable (m : (ℓ : Loc nD τ sig) → Buf (Elt Ideal) ℓ) (c : Dev nD) (t : Fin cfg0.N)

/-- The arguments in memory. -/
def args : Args where
  x := m ((c.tc : Thread nD τ).loc main_arg0)
  img := m ((c.tc : Thread nD τ).loc main_arg1)
  isc := m ((c.tc : Thread nD τ).loc main_arg2)
  kext := m ((c.tc : Thread nD τ).loc main_arg3)
  vext := m ((c.tc : Thread nD τ).loc main_arg4)
  wsq := m ((c.tc : Thread nD τ).loc main_arg5)
  wsk := m ((c.tc : Thread nD τ).loc main_arg6)
  wsv := m ((c.tc : Thread nD τ).loc main_arg7)
  wso := m ((c.tc : Thread nD τ).loc main_arg8)
  bsq := m ((c.tc : Thread nD τ).loc main_arg9)
  bsv := m ((c.tc : Thread nD τ).loc main_arg10)
  bso := m ((c.tc : Thread nD τ).loc main_arg11)
  g1 := m ((c.tc : Thread nD τ).loc main_arg12)
  b1 := m ((c.tc : Thread nD τ).loc main_arg13)
  wcq := m ((c.tc : Thread nD τ).loc main_arg14)
  wco := m ((c.tc : Thread nD τ).loc main_arg15)
  bcq := m ((c.tc : Thread nD τ).loc main_arg16)
  bco := m ((c.tc : Thread nD τ).loc main_arg17)
  wck := m ((c.tc : Thread nD τ).loc main_arg18)
  wcv := m ((c.tc : Thread nD τ).loc main_arg19)
  sck := m ((c.tc : Thread nD τ).loc main_arg20)
  scv := m ((c.tc : Thread nD τ).loc main_arg21)
  bcv := m ((c.tc : Thread nD τ).loc main_arg22)
  g2 := m ((c.tc : Thread nD τ).loc main_arg23)
  b2 := m ((c.tc : Thread nD τ).loc main_arg24)
  wf1 := m ((c.tc : Thread nD τ).loc main_arg25)
  sf1 := m ((c.tc : Thread nD τ).loc main_arg26)
  bf1 := m ((c.tc : Thread nD τ).loc main_arg27)
  wf2 := m ((c.tc : Thread nD τ).loc main_arg28)
  sf2 := m ((c.tc : Thread nD τ).loc main_arg29)
  bf2 := m ((c.tc : Thread nD τ).loc main_arg30)
  g3 := m ((c.tc : Thread nD τ).loc main_arg31)
  b3 := m ((c.tc : Thread nD τ).loc main_arg32)
/-- What the run of the body at grid point `t` is given. -/
def memAt : Mem where
  c := c
  i := grid0.coords t
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := ms0_8 t
  harg9 := hs0_8 t
  arg10 := ms0_9 t
  harg10 := hs0_9 t
  arg11 := ms0_10 t
  harg11 := hs0_10 t
  arg12 := ms0_11 t
  harg12 := hs0_11 t
  arg13 := ms0_12 t
  harg13 := hs0_12 t
  arg14 := ms0_13 t
  harg14 := hs0_13 t
  arg15 := ms0_14 t
  harg15 := hs0_14 t
  arg16 := ms0_15 t
  harg16 := hs0_15 t
  arg17 := ms0_16 t
  harg17 := hs0_16 t
  arg18 := ms0_17 t
  harg18 := hs0_17 t
  arg19 := ms0_18 t
  harg19 := hs0_18 t
  arg20 := ms0_19 t
  harg20 := hs0_19 t
  arg21 := ms0_20 t
  harg21 := hs0_20 t
  arg22 := ms0_21 t
  harg22 := hs0_21 t
  arg23 := ms0_22 t
  harg23 := hs0_22 t
  arg24 := ms0_23 t
  harg24 := hs0_23 t
  arg25 := ms0_24 t
  harg25 := hs0_24 t
  arg26 := ms0_25 t
  harg26 := hs0_25 t
  arg27 := ms0_26 t
  harg27 := hs0_26 t
  arg28 := ms0_27 t
  harg28 := hs0_27 t
  arg29 := ms0_28 t
  harg29 := hs0_28 t
  arg30 := ms0_29 t
  harg30 := hs0_29 t
  arg31 := ms0_30 t
  harg31 := hs0_30 t
  arg32 := ms0_31 t
  harg32 := hs0_31 t
  arg33 := ms0_32 t
  harg33 := hs0_32 t
  arg34 := ms0_33 t
  harg34 := hs0_33 t
  arg35 := ms0_34 t
  harg35 := hs0_34 t
  arg36 := ms0_35 t
  harg36 := hs0_35 t
  arg37 := ms0_36 t
  harg37 := hs0_36 t
  arg38 := ms0_37 t
  harg38 := hs0_37 t
  arg39 := scM0_0
  harg39 := Memref.isWhole_whole _
  arg40 := scM0_1
  harg40 := Memref.isWhole_whole _
  arg41 := scM0_2
  harg41 := Memref.isWhole_whole _
  arg42 := scM0_3
  harg42 := Memref.isWhole_whole _
  arg43 := scM0_4
  harg43 := Memref.isWhole_whole _
  arg44 := scM0_5
  harg44 := Memref.isWhole_whole _
  arg45 := scM0_6
  harg45 := Memref.isWhole_whole _
  arg46 := scM0_7
  harg46 := Memref.isWhole_whole _
  arg47 := scM0_8
  harg47 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t
  x20 := iblk m c 20 t
  x21 := iblk m c 21 t
  x22 := iblk m c 22 t
  x23 := iblk m c 23 t
  x24 := iblk m c 24 t
  x25 := iblk m c 25 t
  x26 := iblk m c 26 t
  x27 := iblk m c 27 t
  x28 := iblk m c 28 t
  x29 := iblk m c 29 t
  x30 := iblk m c 30 t
  x31 := iblk m c 31 t
  x32 := iblk m c 32 t

/-! ### Where the blocks lie -/

theorem idx_seqs : ∀ t : Fin cfg0.N, win0_0.index t = ![t.val, 0] ∧ win0_1.index t = ![t.val, 0, 0] ∧ win0_2.index t = ![t.val, 0]
    ∧ win0_3.index t = ![t.val, 0] ∧ win0_4.index t = ![t.val, 0] := by decide +kernel
theorem idx_outs : ∀ t : Fin cfg0.N, win0_33.index t = ![t.val, 0] ∧ win0_34.index t = ![t.val, 0] ∧ win0_35.index t = ![t.val, 0]
    ∧ win0_36.index t = ![t.val, 0] ∧ win0_37.index t = ![t.val, 0] := by decide +kernel
theorem idx_weights1 : ∀ t : Fin cfg0.N, win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] := by decide +kernel
theorem idx_weights2 : ∀ t : Fin cfg0.N, win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] := by decide +kernel
theorem idx_weights3 : ∀ t : Fin cfg0.N, win0_19.index t = ![0, 0] ∧ win0_20.index t = ![0, 0] ∧ win0_21.index t = ![0, 0] ∧ win0_22.index t = ![0, 0]
    ∧ win0_23.index t = ![0, 0] ∧ win0_24.index t = ![0, 0] ∧ win0_25.index t = ![0, 0] := by decide +kernel
theorem idx_weights4 : ∀ t : Fin cfg0.N, win0_26.index t = ![0, 0] ∧ win0_27.index t = ![0, 0] ∧ win0_28.index t = ![0, 0] ∧ win0_29.index t = ![0, 0]
    ∧ win0_30.index t = ![0, 0] ∧ win0_31.index t = ![0, 0] ∧ win0_32.index t = ![0, 0] := by decide +kernel

/-- Sequence `b` of block `t`. -/
def seqAt (b : Fin 8) : Fin 512 := ⟨t.val * 8 + b.val, by have := t.isLt; have : cfg0.N = 64 := rfl; omega⟩

set_option maxHeartbeats 4000000 in
theorem W_eq : (memAt m c t).W = (args m c).W := by
  obtain ⟨e5, e6, e7, e8, e9, e10, e11⟩ := idx_weights1 t
  obtain ⟨e12, e13, e14, e15, e16, e17, e18⟩ := idx_weights2 t
  obtain ⟨e19, e20, e21, e22, e23, e24, e25⟩ := idx_weights3 t
  obtain ⟨e26, e27, e28, e29, e30, e31, e32⟩ := idx_weights4 t
  unfold Mem.W Args.W memAt args asMat
  simp only [Weights.mk.injEq]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;> funext <;> blk_ext! [iblk, V, e5, e6, e7, e8, e9, e10, e11, e12, e13, e14, e15, e16, e17, e18, e19, e20, e21, e22, e23, e24, e25, e26, e27, e28, e29, e30, e31, e32]
set_option maxHeartbeats 4000000 in
theorem S_eq (b : Fin 8) : (memAt m c t).S b = (args m c).S (seqAt t b) := by
  obtain ⟨e0, e1, e2, e3, e4⟩ := idx_seqs t
  unfold Mem.S Args.S memAt args asMat
  simp only [Seq.mk.injEq]
  refine ⟨?_, ?_, ?_, ?_, ?_⟩ <;> funext <;> blk_ext! [iblk, V, brow, seqAt, e0, e1, e2, e3, e4]

end Cert.KernelIdeal.Blk
-- ==== Proof.KArrays.lean ====
/-
  The kernel's result arrays: each block is what one run of the body computes, and the blocks tile the arrays.
-/
module

public import proofs.«01_k».proof.Proof.ValueKernelIdeal
public import proofs.«01_k».proof.Proof.KBlock
public import proofs.«01_k».proof.Proof.KInputs
public import Idealize.ShloMosaic.Lib.Pipeline.ValueKit
public import Idealize.ShloMosaic.Lib.Pointwise

@[expose] public section

set_option maxRecDepth 16384

noncomputable section

namespace Cert.KernelIdeal.Blk

open Idealize.ShloMosaic Idealize.ShloMosaic.TcCoe Cert.KernelIdeal Cert.KernelIdeal.Gen QFormer

variable (m : (ℓ : Loc nD τ sig) → Buf (Elt Ideal) ℓ) (c : Dev nD) (t : Fin cfg0.N)

/-! ### What a run leaves in the blocks of the results -/

theorem left33 (R : Mem) : out0_A_33 R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32
    = View.canon R.outL := by
  unfold out0_A_33
  exact View.read_writes_eq_canon _ _ _ (cover0_A_33 R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32)
theorem after33 : (dats m 0 c).after 33 t = View.canon (memAt m c t).outL := by
  rw [after0_33]
  unfold outsAt0
  refine Eq.trans ?_ (left33 (memAt m c t))
  dsimp only [memAt]
theorem left34 (R : Mem) : out0_A_34 R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32
    = View.canon R.h2cL := by
  unfold out0_A_34
  exact View.read_writes_eq_canon _ _ _ (cover0_A_34 R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32)
theorem after34 : (dats m 0 c).after 34 t = View.canon (memAt m c t).h2cL := by
  rw [after0_34]
  unfold outsAt0
  refine Eq.trans ?_ (left34 (memAt m c t))
  dsimp only [memAt]
theorem left35 (R : Mem) : out0_A_35 R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32
    = View.canon R.h2sL := by
  unfold out0_A_35
  exact View.read_writes_eq_canon _ _ _ (cover0_A_35 R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32)
theorem after35 : (dats m 0 c).after 35 t = View.canon (memAt m c t).h2sL := by
  rw [after0_35]
  unfold outsAt0
  refine Eq.trans ?_ (left35 (memAt m c t))
  dsimp only [memAt]
theorem left36 (R : Mem) : out0_A_36 R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32
    = View.canon R.gcLL := by
  unfold out0_A_36
  exact View.read_writes_eq_canon _ _ _ (cover0_A_36 R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32)
theorem after36 : (dats m 0 c).after 36 t = View.canon (memAt m c t).gcLL := by
  rw [after0_36]
  unfold outsAt0
  refine Eq.trans ?_ (left36 (memAt m c t))
  dsimp only [memAt]
theorem left37 (R : Mem) : out0_A_37 R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32
    = View.canon R.gsL := by
  unfold out0_A_37
  exact View.read_writes_eq_canon _ _ _ (cover0_A_37 R.c R.i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 R.arg28 R.harg28 R.arg29 R.harg29 R.arg30 R.harg30 R.arg31 R.harg31 R.arg32 R.harg32 R.arg33 R.harg33 R.arg34 R.harg34 R.arg35 R.harg35 R.arg36 R.harg36 R.arg37 R.harg37 R.arg38 R.harg38 R.arg39 R.harg39 R.arg40 R.harg40 R.arg41 R.harg41 R.arg42 R.harg42 R.arg43 R.harg43 R.arg44 R.harg44 R.arg45 R.harg45 R.arg46 R.harg46 R.arg47 R.harg47 R.x0 R.x1 R.x2 R.x3 R.x4 R.x5 R.x6 R.x7 R.x8 R.x9 R.x10 R.x11 R.x12 R.x13 R.x14 R.x15 R.x16 R.x17 R.x18 R.x19 R.x20 R.x21 R.x22 R.x23 R.x24 R.x25 R.x26 R.x27 R.x28 R.x29 R.x30 R.x31 R.x32)
theorem after37 : (dats m 0 c).after 37 t = View.canon (memAt m c t).gsL := by
  rw [after0_37]
  unfold outsAt0
  refine Eq.trans ?_ (left37 (memAt m c t))
  dsimp only [memAt]

/-! ### The arrays -/

theorem arr33 : (dats m 0 c).arrAt 33 cfg0.N = outArr (args m c) := by
  refine (dats m 0 c).arrAt_eq_of_covers 33 _ (by decide +kernel) fun t hf y => ?_
  obtain ⟨e33, e34, e35, e36, e37⟩ := idx_outs t
  obtain ⟨r, j, rfl⟩ : ∃ (r : Fin 256) (j : Fin 768), y = ix2 r j := ⟨y 0, y 1, eq_ix2 y⟩
  obtain ⟨b, s, rfl⟩ := exists_brow r
  unfold outArr
  rw [stack_at _ _ (seqAt t b) s j (by blk_simp [e33]; simp only [brow, seqAt]; omega) (by blk_simp [e33]), ← W_eq m c t, ← S_eq m c t b]
  exact (congrFun (after33 m c t) _).trans (out_apply (memAt m c t) b s j)
theorem arr34 : (dats m 0 c).arrAt 34 cfg0.N = h2CodesArr (args m c) := by
  refine (dats m 0 c).arrAt_eq_of_covers 34 _ (by decide +kernel) fun t hf y => ?_
  obtain ⟨e33, e34, e35, e36, e37⟩ := idx_outs t
  obtain ⟨r, j, rfl⟩ : ∃ (r : Fin 256) (j : Fin 768), y = ix2 r j := ⟨y 0, y 1, eq_ix2 y⟩
  obtain ⟨b, s, rfl⟩ := exists_brow r
  unfold h2CodesArr
  rw [stack_at _ _ (seqAt t b) s j (by blk_simp [e34]; simp only [brow, seqAt]; omega) (by blk_simp [e34]), ← W_eq m c t, ← S_eq m c t b]
  exact (congrFun (after34 m c t) _).trans (h2c_apply (memAt m c t) b s j)
theorem arr36 : (dats m 0 c).arrAt 36 cfg0.N = gCodesArr (args m c) := by
  refine (dats m 0 c).arrAt_eq_of_covers 36 _ (by decide +kernel) fun t hf y => ?_
  obtain ⟨e33, e34, e35, e36, e37⟩ := idx_outs t
  obtain ⟨r, j, rfl⟩ : ∃ (r : Fin 256) (j : Fin 3072), y = ix2 r j := ⟨y 0, y 1, eq_ix2 y⟩
  obtain ⟨b, s, rfl⟩ := exists_brow r
  unfold gCodesArr
  rw [stack_at _ _ (seqAt t b) s j (by blk_simp [e36]; simp only [brow, seqAt]; omega) (by blk_simp [e36]), ← W_eq m c t, ← S_eq m c t b]
  exact (congrFun (after36 m c t) _).trans (gcl_apply (memAt m c t) b s j)
theorem arr35 : (dats m 0 c).arrAt 35 cfg0.N = h2ScaleArr (args m c) := by
  refine (dats m 0 c).arrAt_eq_of_covers 35 _ (by decide +kernel) fun t hf y => ?_
  obtain ⟨e33, e34, e35, e36, e37⟩ := idx_outs t
  obtain ⟨b, s, rfl⟩ : ∃ (b : Fin 8) (s : Fin 32), y = ix2 b s := ⟨y 0, y 1, eq_ix2 y⟩
  unfold h2ScaleArr
  rw [perRow_at _ _ (seqAt t b) s (by blk_simp [e35]; rfl) (by blk_simp [e35]), ← W_eq m c t, ← S_eq m c t b]
  exact (congrFun (after35 m c t) _).trans (h2s_apply (memAt m c t) b s)
theorem arr37 : (dats m 0 c).arrAt 37 cfg0.N = gScaleArr (args m c) := by
  refine (dats m 0 c).arrAt_eq_of_covers 37 _ (by decide +kernel) fun t hf y => ?_
  obtain ⟨e33, e34, e35, e36, e37⟩ := idx_outs t
  obtain ⟨b, s, rfl⟩ : ∃ (b : Fin 8) (s : Fin 32), y = ix2 b s := ⟨y 0, y 1, eq_ix2 y⟩
  unfold gScaleArr
  rw [perRow_at _ _ (seqAt t b) s (by blk_simp [e37]; rfl) (by blk_simp [e37]), ← W_eq m c t, ← S_eq m c t b]
  exact (congrFun (after37 m c t) _).trans (gs_apply (memAt m c t) b s)

end Cert.KernelIdeal.Blk
-- ==== Proof.RefSelf.lean ====
/-
  What the reference's self-attention and first normalisation hold, entry by entry.
-/
module

public import proofs.«01_k».proof.Proof.Literals
public import proofs.«01_k».proof.Proof.Gen.ReferenceIdeal.Skeleton

@[expose] public section

set_option maxRecDepth 16384

noncomputable section

open scoped BigOperators

namespace Cert.ReferenceIdeal.Ref

open Idealize.ShloMosaic Cert.ReferenceIdeal Cert.ReferenceIdeal.Gen QFormer

/-- Row `s` of sequence `b` in an array of all rows. -/
def row (b : Fin 512) (s : Fin 32) : Fin 16384 := ⟨b.val * 32 + s.val, by omega⟩
/-- Head `h` of sequence `b` in an array of all heads. -/
def head (b : Fin 512) (h : Fin 12) : Fin 6144 := ⟨b.val * 12 + h.val, by omega⟩

/-! ### The vocabulary: what the payloads are made of -/

def lin (a : FVec Ideal S16384x768 .bf16) (w : FVec Ideal S768x768 .bf16) : FVec Ideal S16384x768 .f32 :=
  matmul dot_S16384x768_S768x768_S16384x768_1_0_0_1_n_n none a w (constant S16384x768 .f32 0x00000000#32)
def rows (v : FVec Ideal S1x768 .f32) : FVec Ideal S16384x768 .f32 := broadcastTo S16384x768 v broadcasts_S1x768_S16384x768
def heads (t : FVec Ideal S16384x768 .f32) : FVec Ideal S6144x32x64 .bf16 :=
  shapeCast S6144x32x64 (transpose S512x12x32x64 [0, 2, 1, 3]
    (shapeCast S512x32x12x64 (truncf .bf16 t bitsLt_bf16_f32) shapeCasts_S16384x768_S512x32x12x64)
    transposes_S512x32x12x64_p0_2_1_3_S512x12x32x64) shapeCasts_S512x12x32x64_S6144x32x64
def unheads (t : FVec Ideal S6144x32x64 .f32) : FVec Ideal S512x32x12x64 .f32 :=
  transpose S512x32x12x64 [0, 2, 1, 3] (shapeCast S512x12x32x64 t shapeCasts_S6144x32x64_S512x12x32x64)
    transposes_S512x12x32x64_p0_2_1_3_S512x32x12x64
def scores (q k : FVec Ideal S6144x32x64 .bf16) : FVec Ideal S6144x32x32 .f32 :=
  mulf (matmul dot_S6144x32x64_S6144x32x64_S6144x32x32_2_2_1_1_0_0 none q k (constant S6144x32x32 .f32 0x00000000#32))
    (broadcast S6144x32x32 (Scalar.ofBits .f32 0x3E000000#32))
def expos (s : FVec Ideal S6144x32x32 .f32) : FVec Ideal S6144x32x32 .f32 :=
  exp (subf s (broadcastTo S6144x32x32 (shapeCast S6144x32x1
    (multiReduction .maximumf [2] S6144x32 s 0xFF800000#32 reduces_S6144x32x32_S6144x32 (.inl rfl) rfl)
    shapeCasts_S6144x32_S6144x32x1) broadcasts_S6144x32x1_S6144x32x32))
def probs (e : FVec Ideal S6144x32x32 .f32) : FVec Ideal S6144x32x32 .f32 :=
  divf e (broadcastTo S6144x32x32 (shapeCast S6144x32x1
    (multiReduction .add [2] S6144x32 e 0x00000000#32 reduces_S6144x32x32_S6144x32 (.inl rfl) rfl)
    shapeCasts_S6144x32_S6144x32x1) broadcasts_S6144x32x1_S6144x32x32)
def weigh (p : FVec Ideal S6144x32x32 .f32) (v : FVec Ideal S6144x32x64 .bf16) : FVec Ideal S6144x32x64 .f32 :=
  matmul dot_S6144x32x32_S6144x32x64_S6144x32x64_2_1_1_2_0_0 none (truncf .bf16 p bitsLt_bf16_f32) v
    (constant S6144x32x64 .f32 0x00000000#32)

theorem lin_apply (a : FVec Ideal S16384x768 .bf16) (w : FVec Ideal S768x768 .bf16) (r : Fin 16384) (c : Fin 768) :
    lin a w (ix2 r c) = proj (asMat a r) (asMat w) c := by
  pointwise [lin]; rfl
theorem rows_apply (v : FVec Ideal S1x768 .f32) (r : Fin 16384) (c : Fin 768) : rows v (ix2 r c) = v (ix2 0 c) := by
  pointwise [rows]
theorem heads_apply (t : FVec Ideal S16384x768 .f32) (b : Fin 512) (h : Fin 12) (s : Fin 32) (d : Fin 64) :
    heads t (ix3 (head b h) s d) = t (ix2 (row b s) (hcol h d)) := by
  pointwise [heads, head, row, hcol]
theorem unheads_apply (t : FVec Ideal S6144x32x64 .f32) (b : Fin 512) (h : Fin 12) (s : Fin 32) (d : Fin 64) :
    unheads t (ix4 b s h d) = t (ix3 (head b h) s d) := by
  pointwise [unheads, head]
theorem scores_apply (q k : FVec Ideal S6144x32x64 .bf16) (z : Fin 6144) (i j : Fin 32) :
    scores q k (ix3 z i j) = (∑ d, q (ix3 z i d) * k (ix3 z j d)) * ((1 / 8 : ℝ) : EReal) := by
  rw [← lit_eighth]
  pointwise [scores]
theorem expos_apply (s : FVec Ideal S6144x32x32 .f32) (z : Fin 6144) (i j : Fin 32) :
    expos s (ix3 z i j) = expo (fun l => s (ix3 z i l)) j := by
  unfold expo rowMax
  rw [← lit_bot]
  pointwise [expos]
theorem probs_apply (e : FVec Ideal S6144x32x32 .f32) (z : Fin 6144) (i j : Fin 32) :
    probs e (ix3 z i j) = Ideal.div (e (ix3 z i j)) (∑ l, e (ix3 z i l)) := by
  pointwise [probs]
theorem weigh_apply (p : FVec Ideal S6144x32x32 .f32) (v : FVec Ideal S6144x32x64 .bf16) (z : Fin 6144) (i : Fin 32) (d : Fin 64) :
    weigh p v (ix3 z i d) = ∑ j, p (ix3 z i j) * v (ix3 z j d) := by
  pointwise [weigh]

/-! ### The self-attention -/

theorem pay21_eq (bq bv : FVec Ideal S1x768 .f32) (x : Vec Ideal S16384x768 .bf16) (wq wk wv : Vec Ideal S768x768 .bf16) :
    k0_pay21 (F := Ideal) bq bv x wq wk wv
      = unheads (weigh (probs (expos (scores (heads (addf (lin (k0_pay20 x) wq) (rows bq))) (heads (lin (k0_pay20 x) wk))))) (heads (addf (lin (k0_pay20 x) wv) (rows bv)))) := rfl

theorem selfHeads_apply (q k v : FVec Ideal S16384x768 .f32) (b : Fin 512) (s : Fin 32) (h : Fin 12) (d : Fin 64) :
    unheads (weigh (probs (expos (scores (heads q) (heads k)))) (heads v)) (ix4 b s h d)
      = selfCtx (fun c => q (ix2 (row b s) c)) (fun j c => k (ix2 (row b j) c)) (fun j c => v (ix2 (row b j) c)) (hcol h d) := by
  have hh : headOf (hcol h d) = h := Fin.ext (by simp only [headOf, hcol]; omega)
  rw [unheads_apply, weigh_apply]
  simp only [probs_apply, expos_apply, scores_apply, heads_apply, selfCtx, score, headDot, hh]

end Cert.ReferenceIdeal.Ref
-- ==== Proof.RefRest.lean ====
/-
  The pieces of the reference after its self-attention, read entry by entry: normalisation, cross-attention, the
  quantiser and the feed-forward network.
-/
module

public import proofs.«01_k».proof.Proof.RefSelf

@[expose] public section

set_option maxRecDepth 16384

noncomputable section

open scoped BigOperators

namespace Cert.ReferenceIdeal.Ref

open Idealize.ShloMosaic Cert.ReferenceIdeal Cert.ReferenceIdeal.Gen QFormer

/-! ### Normalisation -/

def flat (t : FVec Ideal S512x32x12x64 .f32) : FVec Ideal S16384x768 .f32 := shapeCast S16384x768 t shapeCasts_S512x32x12x64_S16384x768
def colOf (t : FVec Ideal S16384x1 .f32) : FVec Ideal S16384x768 .f32 := broadcastTo S16384x768 t broadcasts_S16384x1_S16384x768
def rowMeans (t : FVec Ideal S16384x768 .f32) : FVec Ideal S16384x1 .f32 :=
  divf (shapeCast S16384x1 (multiReduction .add [1] S16384 t 0x00000000#32 reduces_S16384x768_S16384 (.inl rfl) rfl) shapeCasts_S16384_S16384x1)
    (broadcast S16384x1 (Scalar.ofBits .f32 0x44400000#32))
def centred (t : FVec Ideal S16384x768 .f32) : FVec Ideal S16384x768 .f32 := subf t (colOf (rowMeans t))
def norm (t : FVec Ideal S16384x768 .f32) (g b : FVec Ideal S1x768 .f32) : FVec Ideal S16384x768 .f32 :=
  addf (mulf (mulf (centred t) (colOf (rsqrt (addf (rowMeans (mulf (centred t) (centred t)))
    (broadcast S16384x1 (Scalar.ofBits .f32 0x2B8CBCCC#32)))))) (rows g)) (rows b)

theorem flat_apply (t : FVec Ideal S512x32x12x64 .f32) (b : Fin 512) (s : Fin 32) (h : Fin 12) (d : Fin 64) :
    flat t (ix2 (row b s) (hcol h d)) = t (ix4 b s h d) := by
  pointwise [flat, row, hcol]
theorem colOf_apply (t : FVec Ideal S16384x1 .f32) (r : Fin 16384) (c : Fin 768) : colOf t (ix2 r c) = t (ix2 r 0) := by
  pointwise [colOf]
theorem rowMeans_apply (t : FVec Ideal S16384x768 .f32) (r : Fin 16384) : rowMeans t (ix2 r 0) = mean (asMat t r) := by
  unfold mean
  rw [← lit_768]
  pointwise [rowMeans]
theorem centred_apply (t : FVec Ideal S16384x768 .f32) (r : Fin 16384) (c : Fin 768) :
    centred t (ix2 r c) = t (ix2 r c) - mean (asMat t r) := by
  rw [← rowMeans_apply, ← colOf_apply (rowMeans t) r c]; rfl
theorem norm_apply (t : FVec Ideal S16384x768 .f32) (g b : FVec Ideal S1x768 .f32) (r : Fin 16384) (c : Fin 768) :
    norm t g b (ix2 r c) = layerNorm (asMat t r) (asMat g 0) (asMat b 0) c := by
  have hm := rowMeans_apply (mulf (centred t) (centred t)) r
  have hc : ∀ c, asMat (mulf (centred t) (centred t)) r c
      = (t (ix2 r c) - mean (asMat t r)) * (t (ix2 r c) - mean (asMat t r)) := fun c => by
    rw [← centred_apply]; rfl
  rw [funext hc] at hm
  unfold layerNorm eps
  rw [← hm]
  pointwise [norm, rows_apply, colOf_apply, centred_apply]

/-! ### Cross-attention -/

def imgLin (a : FVec Ideal S131072x1408 .fp8e4m3) (w : FVec Ideal S1408x768 .fp8e4m3) : FVec Ideal S131072x768 .f32 :=
  matmul dot_S131072x1408_S1408x768_S131072x768_1_0_0_1_n_n none a w (constant S131072x768 .f32 0x00000000#32)
def imgCol (t : FVec Ideal S131072x1 .f32) : FVec Ideal S131072x768 .f32 := broadcastTo S131072x768 t broadcasts_S131072x1_S131072x768
def imgRows (t : FVec Ideal S1x768 .f32) : FVec Ideal S131072x768 .f32 := broadcastTo S131072x768 t broadcasts_S1x768_S131072x768
def joined (t : FVec Ideal S131072x768 .f32) (l : Vec Ideal S512x1x768 .f32) : FVec Ideal S512x257x768 .f32 :=
  concatenate S512x257x768 1 [⟨S512x256x768, shapeCast S512x256x768 t shapeCasts_S131072x768_S512x256x768⟩,
    ⟨S512x1x768, shapeCast S512x1x768 l shapeCasts_S512x1x768_S512x1x768⟩] concatenates_S512x256x768_S512x1x768_S512x257x768_d1
def heads257 (t : FVec Ideal S512x257x768 .f32) : FVec Ideal S6144x257x64 .bf16 :=
  shapeCast S6144x257x64 (transpose S512x12x257x64 [0, 2, 1, 3]
    (shapeCast S512x257x12x64 (truncf .bf16 t bitsLt_bf16_f32) shapeCasts_S512x257x768_S512x257x12x64)
    transposes_S512x257x12x64_p0_2_1_3_S512x12x257x64) shapeCasts_S512x12x257x64_S6144x257x64
def scores257 (q : FVec Ideal S6144x32x64 .bf16) (k : FVec Ideal S6144x257x64 .bf16) : FVec Ideal S6144x32x257 .f32 :=
  mulf (matmul dot_S6144x32x64_S6144x257x64_S6144x32x257_2_2_1_1_0_0 none q k (constant S6144x32x257 .f32 0x00000000#32))
    (broadcast S6144x32x257 (Scalar.ofBits .f32 0x3E000000#32))
def expos257 (s : FVec Ideal S6144x32x257 .f32) : FVec Ideal S6144x32x257 .f32 :=
  exp (subf s (broadcastTo S6144x32x257 (shapeCast S6144x32x1
    (multiReduction .maximumf [2] S6144x32 s 0xFF800000#32 reduces_S6144x32x257_S6144x32 (.inl rfl) rfl)
    shapeCasts_S6144x32_S6144x32x1) broadcasts_S6144x32x1_S6144x32x257))
def probs257 (e : FVec Ideal S6144x32x257 .f32) : FVec Ideal S6144x32x257 .f32 :=
  mulf e (broadcastTo S6144x32x257 (divf (broadcast S6144x32x1 (Scalar.ofBits .f32 0x3F800000#32)) (shapeCast S6144x32x1
    (multiReduction .add [2] S6144x32 e 0x00000000#32 reduces_S6144x32x257_S6144x32 (.inl rfl) rfl)
    shapeCasts_S6144x32_S6144x32x1)) broadcasts_S6144x32x1_S6144x32x257)
def weigh257 (p : FVec Ideal S6144x32x257 .f32) (v : FVec Ideal S6144x257x64 .bf16) : FVec Ideal S6144x32x64 .f32 :=
  matmul dot_S6144x32x257_S6144x257x64_S6144x32x64_2_1_1_2_0_0 none (truncf .bf16 p bitsLt_bf16_f32) v
    (constant S6144x32x64 .f32 0x00000000#32)

/-- Token `j` of sequence `b` in an array of all tokens. -/
def tok (b : Fin 512) (j : Fin 256) : Fin 131072 := ⟨b.val * 256 + j.val, by omega⟩

theorem imgLin_apply (a : FVec Ideal S131072x1408 .fp8e4m3) (w : FVec Ideal S1408x768 .fp8e4m3) (r : Fin 131072) (c : Fin 768) :
    imgLin a w (ix2 r c) = proj (asMat a r) (asMat w) c := by
  pointwise [imgLin]; rfl
theorem imgCol_apply (t : FVec Ideal S131072x1 .f32) (r : Fin 131072) (c : Fin 768) : imgCol t (ix2 r c) = t (ix2 r 0) := by
  pointwise [imgCol]
theorem imgRows_apply (t : FVec Ideal S1x768 .f32) (r : Fin 131072) (c : Fin 768) : imgRows t (ix2 r c) = t (ix2 0 c) := by
  pointwise [imgRows]
theorem joined_apply (t : FVec Ideal S131072x768 .f32) (l : Vec Ideal S512x1x768 .f32) (b : Fin 512) (j : Fin 257) (c : Fin 768) :
    joined t l (ix3 b j c) = withLast (fun j c => t (ix2 (tok b j) c)) (fun c => l (ix3 b 0 c)) j c := by
  pointwise [joined, withLast]
  by_cases h : j.val < 256
  · rw [dif_pos h, dif_pos h]; rfl
  · rw [dif_neg h, dif_neg h]
    exact congrArg (fun z : Fin 1 => l (ix3 b z c)) (Subsingleton.elim _ _)
theorem heads257_apply (t : FVec Ideal S512x257x768 .f32) (b : Fin 512) (h : Fin 12) (s : Fin 257) (d : Fin 64) :
    heads257 t (ix3 (head b h) s d) = t (ix3 b s (hcol h d)) := by
  pointwise [heads257, head, hcol]
theorem scores257_apply (q : FVec Ideal S6144x32x64 .bf16) (k : FVec Ideal S6144x257x64 .bf16) (z : Fin 6144) (i : Fin 32) (j : Fin 257) :
    scores257 q k (ix3 z i j) = (∑ d, q (ix3 z i d) * k (ix3 z j d)) * ((1 / 8 : ℝ) : EReal) := by
  rw [← lit_eighth]
  pointwise [scores257]
theorem expos257_apply (s : FVec Ideal S6144x32x257 .f32) (z : Fin 6144) (i : Fin 32) (j : Fin 257) :
    expos257 s (ix3 z i j) = expo (fun l => s (ix3 z i l)) j := by
  unfold expo rowMax
  rw [← lit_bot]
  pointwise [expos257]
theorem probs257_apply (e : FVec Ideal S6144x32x257 .f32) (z : Fin 6144) (i : Fin 32) (j : Fin 257) :
    probs257 e (ix3 z i j) = e (ix3 z i j) * Ideal.div 1 (∑ l, e (ix3 z i l)) := by
  have h : (1 : EReal) = Ideal.ofBits .f32 0x3F800000#32 := lit_one.symm
  rw [h]
  pointwise [probs257]
theorem weigh257_apply (p : FVec Ideal S6144x32x257 .f32) (v : FVec Ideal S6144x257x64 .bf16) (z : Fin 6144) (i : Fin 32) (d : Fin 64) :
    weigh257 p v (ix3 z i d) = ∑ j, p (ix3 z i j) * v (ix3 z j d) := by
  pointwise [weigh257]

theorem crossHeads_apply (q : FVec Ideal S16384x768 .f32) (k v : FVec Ideal S512x257x768 .f32) (b : Fin 512) (s : Fin 32) (h : Fin 12) (d : Fin 64) :
    unheads (weigh257 (probs257 (expos257 (scores257 (heads q) (heads257 k)))) (heads257 v)) (ix4 b s h d)
      = crossCtx (fun c => q (ix2 (row b s) c)) (fun j c => k (ix3 b j c)) (fun j c => v (ix3 b j c)) (hcol h d) := by
  have hh : headOf (hcol h d) = h := Fin.ext (by simp only [headOf, hcol]; omega)
  rw [unheads_apply, weigh257_apply]
  simp only [probs257_apply, expos257_apply, scores257_apply, heads_apply, heads257_apply, crossCtx, score, headDot, hh]

/-! ### The quantiser -/

def exponent (a l : FVec Ideal S16384 .f32) (ln2 : EReal) : FVec Ideal S16384 .f32 :=
  select (cmpf .oeq a (broadcast S16384 (Scalar.ofBits .f32 0x00000000#32))) (broadcast S16384 (Scalar.ofBits .f32 0x00000000#32))
    (minimumf (broadcast S16384 (Scalar.ofBits .f32 0x42FC0000#32)) (maximumf (broadcast S16384 (Scalar.ofBits .f32 0xC2FC0000#32))
      (addf (floor (divf l (broadcast S16384 ln2))) (broadcast S16384 (Scalar.ofBits .f32 0x3F800000#32)))))
def logOf (a : FVec Ideal S16384 .f32) : FVec Ideal S16384 .f32 := log (mulf a (broadcast S16384 (Scalar.ofBits .f32 0x3B124925#32)))
def inverse (e : FVec Ideal S16384 .f32) : FVec Ideal S16384x1 .f32 :=
  shapeCast S16384x1 (exp2 (subf (broadcast S16384 (Scalar.ofBits .f32 0x00000000#32)) e)) shapeCasts_S16384_S16384x1
def largest768 (v : FVec Ideal S16384x768 .f32) : FVec Ideal S16384 .f32 :=
  multiReduction .maximumf [1] S16384 (absf v) 0xFF800000#32 reduces_S16384x768_S16384 (.inl rfl) rfl
def largest3072 (v : FVec Ideal S16384x3072 .f32) : FVec Ideal S16384 .f32 :=
  multiReduction .maximumf [1] S16384 (absf v) 0xFF800000#32 reduces_S16384x3072_S16384 (.inl rfl) rfl
def codes768 (v : FVec Ideal S16384x768 .f32) (e : FVec Ideal S16384 .f32) : FVec Ideal S16384x768 .fp8e4m3 :=
  truncf .fp8e4m3 (minimumf (broadcast S16384x768 (Scalar.ofBits .f32 0x43E00000#32)) (maximumf (broadcast S16384x768 (Scalar.ofBits .f32 0xC3E00000#32))
    (mulf v (broadcastTo S16384x768 (inverse e) broadcasts_S16384x1_S16384x768)))) bitsLt_fp8e4m3_f32
def codes3072 (v : FVec Ideal S16384x3072 .f32) (e : FVec Ideal S16384 .f32) : FVec Ideal S16384x3072 .fp8e4m3 :=
  truncf .fp8e4m3 (minimumf (broadcast S16384x3072 (Scalar.ofBits .f32 0x43E00000#32)) (maximumf (broadcast S16384x3072 (Scalar.ofBits .f32 0xC3E00000#32))
    (mulf v (broadcastTo S16384x3072 (inverse e) broadcasts_S16384x1_S16384x3072)))) bitsLt_fp8e4m3_f32

theorem exponent_apply (a : FVec Ideal S16384 .f32) (r : Fin 16384) :
    exponent a (logOf a) ((Real.log 2 : ℝ) : EReal) (ix1 r) = scaleExp (a (ix1 r)) := by
  unfold scaleExp invCodeMax
  rw [← lit_126, ← lit_neg126, ← lit_one]
  pointwise [exponent, logOf]
theorem largest768_apply (v : FVec Ideal S16384x768 .f32) (r : Fin 16384) : largest768 v (ix1 r) = absMax (asMat v r) := by
  unfold absMax rowMax
  rw [← lit_bot]
  pointwise [largest768]
  rfl
theorem largest3072_apply (v : FVec Ideal S16384x3072 .f32) (r : Fin 16384) : largest3072 v (ix1 r) = absMax (asMat v r) := by
  unfold absMax rowMax
  rw [← lit_bot]
  pointwise [largest3072]
  rfl
theorem codes768_apply (v : FVec Ideal S16384x768 .f32) (e : FVec Ideal S16384 .f32) (r : Fin 16384) (c : Fin 768) :
    codes768 v e (ix2 r c) = min ((448 : ℝ) : EReal) (max ((-448 : ℝ) : EReal) (v (ix2 r c) * Ideal.exp2 (-(e (ix1 r))))) := by
  rw [← lit_448, ← lit_neg448]
  pointwise [codes768, inverse]
  rw [zero_sub]
  rfl
theorem codes3072_apply (v : FVec Ideal S16384x3072 .f32) (e : FVec Ideal S16384 .f32) (r : Fin 16384) (c : Fin 3072) :
    codes3072 v e (ix2 r c) = min ((448 : ℝ) : EReal) (max ((-448 : ℝ) : EReal) (v (ix2 r c) * Ideal.exp2 (-(e (ix1 r))))) := by
  rw [← lit_448, ← lit_neg448]
  pointwise [codes3072, inverse]
  rw [zero_sub]
  rfl

/-! ### The feed-forward network -/

def hiddenPre (a : FVec Ideal S16384x768 .fp8e4m3) (sc : FVec Ideal S16384 .f32) (w : FVec Ideal S768x3072 .fp8e4m3) (sf bf : Vec Ideal S1x3072 .f32) :
    FVec Ideal S16384x3072 .f32 :=
  addf (mulf (matmul dot_S16384x768_S768x3072_S16384x3072_1_0_0_1_n_n none a w (constant S16384x3072 .f32 0x00000000#32))
    (mulf (broadcastTo S16384x3072 (shapeCast S16384x1 sc shapeCasts_S16384_S16384x1) broadcasts_S16384x1_S16384x3072)
      (broadcastTo S16384x3072 (shapeCast S1x3072 sf shapeCasts_S1x3072_S1x3072) broadcasts_S1x3072_S16384x3072)))
    (broadcastTo S16384x3072 (shapeCast S1x3072 bf shapeCasts_S1x3072_S1x3072) broadcasts_S1x3072_S16384x3072)
def geluOf (f : FVec Ideal S16384x3072 .f32) : FVec Ideal S16384x3072 .f32 :=
  mulf (mulf (broadcast S16384x3072 (Scalar.ofBits .f32 0x3F000000#32)) f) (addf (broadcast S16384x3072 (Scalar.ofBits .f32 0x3F800000#32))
    (erf (mulf f (broadcast S16384x3072 (Scalar.ofBits .f32 0x3F3504F3#32)))))
def ffnOut (a : FVec Ideal S16384x3072 .fp8e4m3) (sc : FVec Ideal S16384 .f32) (w : FVec Ideal S3072x768 .fp8e4m3) (sf bf : FVec Ideal S1x768 .f32) :
    FVec Ideal S16384x768 .f32 :=
  addf (mulf (matmul dot_S16384x3072_S3072x768_S16384x768_1_0_0_1_n_n none a w (constant S16384x768 .f32 0x00000000#32))
    (mulf (colOf (shapeCast S16384x1 sc shapeCasts_S16384_S16384x1)) (rows sf))) (rows bf)

theorem hiddenPre_apply (a : FVec Ideal S16384x768 .fp8e4m3) (sc : FVec Ideal S16384 .f32) (w : FVec Ideal S768x3072 .fp8e4m3) (sf bf : Vec Ideal S1x3072 .f32)
    (r : Fin 16384) (c : Fin 3072) : hiddenPre a sc w sf bf (ix2 r c)
      = proj (asMat a r) (asMat w) c * (sc (ix1 r) * sf (ix2 0 c)) + bf (ix2 0 c) := by
  unfold proj
  pointwise [hiddenPre]
theorem geluOf_apply (f : FVec Ideal S16384x3072 .f32) (r : Fin 16384) (c : Fin 3072) : geluOf f (ix2 r c) = gelu (f (ix2 r c)) := by
  unfold gelu sqrtHalf
  rw [← lit_half, ← lit_one]
  pointwise [geluOf]
  rfl
theorem ffnOut_apply (a : FVec Ideal S16384x3072 .fp8e4m3) (sc : FVec Ideal S16384 .f32) (w : FVec Ideal S3072x768 .fp8e4m3) (sf bf : FVec Ideal S1x768 .f32)
    (r : Fin 16384) (c : Fin 768) : ffnOut a sc w sf bf (ix2 r c)
      = proj (asMat a r) (asMat w) c * (sc (ix1 r) * sf (ix2 0 c)) + bf (ix2 0 c) := by
  unfold proj
  pointwise [ffnOut, colOf, rows]

end Cert.ReferenceIdeal.Ref
-- ==== Proof.RefLayer.lean ====
/-
  What the reference writes, as the layer's mathematics: from the arrays it loads, row `s` of sequence `b` of each
  result is the layer of that sequence.
-/
module

public import proofs.«01_k».proof.Proof.RefRest

@[expose] public section

set_option maxRecDepth 16384

noncomputable section

open scoped BigOperators

namespace Cert.ReferenceIdeal.Ref

open Idealize.ShloMosaic Cert.ReferenceIdeal Cert.ReferenceIdeal.Gen QFormer

/-- The arrays the reference loads. -/
structure In where
  x : Vec Ideal S16384x768 .bf16
  img : Vec Ideal S512x256x1408 .fp8e4m3
  isc : Vec Ideal S512x256 .f32
  kx : Vec Ideal S512x1x768 .f32
  vx : Vec Ideal S512x1x768 .f32
  wsq : Vec Ideal S768x768 .bf16
  wsk : Vec Ideal S768x768 .bf16
  wsv : Vec Ideal S768x768 .bf16
  wso : Vec Ideal S768x768 .bf16
  wcq : Vec Ideal S768x768 .bf16
  wco : Vec Ideal S768x768 .bf16
  wck : Vec Ideal S1408x768 .fp8e4m3
  wcv : Vec Ideal S1408x768 .fp8e4m3
  wf1 : Vec Ideal S768x3072 .fp8e4m3
  wf2 : Vec Ideal S3072x768 .fp8e4m3
  bsq : Vec Ideal S1x768 .f32
  bsv : Vec Ideal S1x768 .f32
  bso : Vec Ideal S1x768 .f32
  g1 : Vec Ideal S1x768 .f32
  b1 : Vec Ideal S1x768 .f32
  bcq : Vec Ideal S1x768 .f32
  bco : Vec Ideal S1x768 .f32
  sck : Vec Ideal S1x768 .f32
  scv : Vec Ideal S1x768 .f32
  bcv : Vec Ideal S1x768 .f32
  g2 : Vec Ideal S1x768 .f32
  b2 : Vec Ideal S1x768 .f32
  sf2 : Vec Ideal S1x768 .f32
  bf2 : Vec Ideal S1x768 .f32
  g3 : Vec Ideal S1x768 .f32
  b3 : Vec Ideal S1x768 .f32
  sf1 : Vec Ideal S1x3072 .f32
  bf1 : Vec Ideal S1x3072 .f32

namespace In

variable (A : In)

/-- The weights among the arrays. -/
def W : Weights where
  wsq := asMat A.wsq
  wsk := asMat A.wsk
  wsv := asMat A.wsv
  wso := asMat A.wso
  bsq := asMat A.bsq 0
  bsv := asMat A.bsv 0
  bso := asMat A.bso 0
  g1 := asMat A.g1 0
  b1 := asMat A.b1 0
  wcq := asMat A.wcq
  wco := asMat A.wco
  bcq := asMat A.bcq 0
  bco := asMat A.bco 0
  wck := asMat A.wck
  wcv := asMat A.wcv
  sck := asMat A.sck 0
  scv := asMat A.scv 0
  bcv := asMat A.bcv 0
  g2 := asMat A.g2 0
  b2 := asMat A.b2 0
  wf1 := asMat A.wf1
  sf1 := asMat A.sf1 0
  bf1 := asMat A.bf1 0
  wf2 := asMat A.wf2
  sf2 := asMat A.sf2 0
  bf2 := asMat A.bf2 0
  g3 := asMat A.g3 0
  b3 := asMat A.b3 0

/-- Sequence `b` among the arrays. -/
def S (b : Fin 512) : Seq where
  x := fun s c => A.x (ix2 (row b s) c)
  img := fun j c => A.img (ix3 b j c)
  isc := fun j => A.isc (ix2 b j)
  kext := fun c => A.kx (ix3 b 0 c)
  vext := fun c => A.vx (ix3 b 0 c)

/-! ### The values the payloads pass on -/

def v71 : FVec Ideal S512x32x12x64 .f32 := k0_pay21 (k0_pay4 A.bsq) (k0_pay5 A.bsv) A.x A.wsq A.wsk A.wsv
def v99 : FVec Ideal S16384x768 .f32 := k0_pay22 (k0_pay6 A.bso) (k0_pay7 A.g1) (k0_pay8 A.b1) (k0_pay20 A.x) A.v71 A.wso
def v104 : FVec Ideal S16384x768 .f32 :=
  k0_pay23 (k0_pay6 A.bso) (k0_pay7 A.g1) (k0_pay8 A.b1) (k0_pay9 A.bcq) (k0_pay20 A.x) A.v71 A.wso A.wcq
def v154 : FVec Ideal S6144x32x257 .f32 := k0_pay27 (k0_pay11 A.sck) A.v104 (k0_pay25 A.isc) (k0_pay26 A.img A.wck) A.kx
def v158 : FVec Ideal S6144x257x64 .bf16 := k0_pay28 (k0_pay12 A.scv) (k0_pay13 A.bcv) (k0_pay24 A.img) (k0_pay25 A.isc) A.wcv A.vx
def v189 : FVec Ideal S16384x768 .f32 := k0_pay29 (k0_pay10 A.bco) (k0_pay14 A.g2) (k0_pay15 A.b2) A.v99 A.v154 A.v158 A.wco
def v191 : FVec Ideal S16384 .f32 := k0_pay30 (k0_pay10 A.bco) (k0_pay14 A.g2) (k0_pay15 A.b2) A.v99 A.v154 A.v158 A.wco
def v203 : FVec Ideal S16384 .f32 := k0_pay31 (k0_pay10 A.bco) (k0_pay14 A.g2) (k0_pay15 A.b2) A.v99 A.v154 A.v158 A.wco
def v240 : FVec Ideal S16384x3072 .f32 := k0_pay35 A.v189 A.v191 A.v203 A.wf1 A.sf1 A.bf1
def v242 : FVec Ideal S16384 .f32 := k0_pay36 A.v189 A.v191 A.v203 A.wf1 A.sf1 A.bf1
def v245 : FVec Ideal S16384 .f32 := k0_pay37 A.v189 A.v191 A.v203 A.wf1 A.sf1 A.bf1
/-- The logarithm of two, a named constant of the program. -/
def ln2 : Ideal .f32 := Named.named κ "log_2" 0x3F317218#32

/-! ### What is written -/

def outA : FVec Ideal S16384x768 .bf16 :=
  k0_pay1 (k0_pay18 A.g3) (k0_pay19 A.b3) (k0_pay41 (k0_pay16 A.sf2) (k0_pay17 A.bf2) A.v189 A.v240 A.v242 A.v245 ln2 A.wf2)
    (k0_pay42 (k0_pay16 A.sf2) (k0_pay17 A.bf2) A.v189 A.v240 A.v242 A.v245 ln2 A.wf2) k0_pay43
def h2cA : FVec Ideal S16384x768 .fp8e4m3 := k0_pay33 A.v189 A.v191 A.v203
def h2sA : FVec Ideal S512x32 .f32 := k0_pay2 (k0_pay34 A.v191 A.v203)
def gcA : FVec Ideal S16384x3072 .fp8e4m3 := k0_pay39 A.v240 A.v242 A.v245 ln2
def gsA : FVec Ideal S512x32 .f32 := k0_pay3 (k0_pay40 A.v242 A.v245 ln2)

/-! ### The values in the vocabulary -/

theorem cast_row (v : Vec Ideal S1x768 .f32) : shapeCast S1x768 v shapeCasts_S1x768_S1x768 = v := shapeCast_self _ _
theorem cast_x (v : Vec Ideal S16384x768 .bf16) : k0_pay20 (F := Ideal) v = v := shapeCast_self _ _
theorem pay4_id (v : Vec Ideal S1x768 .f32) : k0_pay4 (F := Ideal) v = v := cast_row v
theorem pay5_id (v : Vec Ideal S1x768 .f32) : k0_pay5 (F := Ideal) v = v := cast_row v
theorem pay6_id (v : Vec Ideal S1x768 .f32) : k0_pay6 (F := Ideal) v = v := cast_row v
theorem pay7_id (v : Vec Ideal S1x768 .f32) : k0_pay7 (F := Ideal) v = v := cast_row v
theorem pay8_id (v : Vec Ideal S1x768 .f32) : k0_pay8 (F := Ideal) v = v := cast_row v
theorem pay9_id (v : Vec Ideal S1x768 .f32) : k0_pay9 (F := Ideal) v = v := cast_row v
theorem pay10_id (v : Vec Ideal S1x768 .f32) : k0_pay10 (F := Ideal) v = v := cast_row v
theorem pay11_id (v : Vec Ideal S1x768 .f32) : k0_pay11 (F := Ideal) v = v := cast_row v
theorem pay12_id (v : Vec Ideal S1x768 .f32) : k0_pay12 (F := Ideal) v = v := cast_row v
theorem pay13_id (v : Vec Ideal S1x768 .f32) : k0_pay13 (F := Ideal) v = v := cast_row v
theorem pay14_id (v : Vec Ideal S1x768 .f32) : k0_pay14 (F := Ideal) v = v := cast_row v
theorem pay15_id (v : Vec Ideal S1x768 .f32) : k0_pay15 (F := Ideal) v = v := cast_row v
theorem pay16_id (v : Vec Ideal S1x768 .f32) : k0_pay16 (F := Ideal) v = v := cast_row v
theorem pay17_id (v : Vec Ideal S1x768 .f32) : k0_pay17 (F := Ideal) v = v := cast_row v
theorem pay18_id (v : Vec Ideal S1x768 .f32) : k0_pay18 (F := Ideal) v = v := cast_row v
theorem pay19_id (v : Vec Ideal S1x768 .f32) : k0_pay19 (F := Ideal) v = v := cast_row v
theorem ln2_eq : ln2 = ((Real.log 2 : ℝ) : EReal) := IdealRules.named_const.ideal_named_scalar _ _ _ _ rfl

theorem v71_eq : A.v71 = unheads (weigh (probs (expos (scores (heads (addf (lin A.x A.wsq) (rows A.bsq))) (heads (lin A.x A.wsk)))))
    (heads (addf (lin A.x A.wsv) (rows A.bsv)))) := by
  unfold v71
  rw [pay21_eq, cast_x, pay4_id, pay5_id]
theorem v99_eq : A.v99 = norm (addf (extf .f32 A.x bitsLt_bf16_f32)
    (addf (lin (truncf .bf16 (flat A.v71) bitsLt_bf16_f32) A.wso) (rows A.bso))) A.g1 A.b1 := by
  have h : A.v99 = norm (addf (extf .f32 (k0_pay20 A.x) bitsLt_bf16_f32)
    (addf (lin (truncf .bf16 (flat A.v71) bitsLt_bf16_f32) A.wso) (rows (k0_pay6 A.bso)))) (k0_pay7 A.g1) (k0_pay8 A.b1) := rfl
  rw [h, cast_x, pay6_id, pay7_id, pay8_id]
theorem v104_eq : A.v104 = addf (lin (truncf .bf16 A.v99 bitsLt_bf16_f32) A.wcq) (rows A.bcq) := by
  have h : A.v104 = addf (lin (truncf .bf16 A.v99 bitsLt_bf16_f32) A.wcq) (rows (k0_pay9 A.bcq)) := rfl
  rw [h, pay9_id]
/-- The keys of all tokens. -/
def kAll : FVec Ideal S512x257x768 .f32 :=
  joined (mulf (mulf (imgLin (k0_pay24 A.img) A.wck) (imgCol (k0_pay25 A.isc))) (imgRows A.sck)) A.kx
/-- The values of all tokens. -/
def vAll : FVec Ideal S512x257x768 .f32 :=
  joined (addf (mulf (mulf (imgLin (k0_pay24 A.img) A.wcv) (imgCol (k0_pay25 A.isc))) (imgRows A.scv)) (imgRows A.bcv)) A.vx
theorem v154_eq : A.v154 = probs257 (expos257 (scores257 (heads A.v104) (heads257 A.kAll))) := by
  have h : A.v154 = probs257 (expos257 (scores257 (heads A.v104) (heads257
    (joined (mulf (mulf (imgLin (k0_pay24 A.img) A.wck) (imgCol (k0_pay25 A.isc))) (imgRows (k0_pay11 A.sck))) A.kx)))) := rfl
  rw [h, pay11_id]; rfl
theorem v158_eq : A.v158 = heads257 A.vAll := by
  have h : A.v158 = heads257 (joined (addf (mulf (mulf (imgLin (k0_pay24 A.img) A.wcv) (imgCol (k0_pay25 A.isc))) (imgRows (k0_pay12 A.scv)))
    (imgRows (k0_pay13 A.bcv))) A.vx) := rfl
  rw [h, pay12_id, pay13_id]; rfl
theorem v189_eq : A.v189 = norm (addf A.v99 (addf (lin (truncf .bf16 (flat (unheads (weigh257 A.v154 A.v158))) bitsLt_bf16_f32) A.wco) (rows A.bco))) A.g2 A.b2 := by
  have h : A.v189 = norm (addf A.v99 (addf (lin (truncf .bf16 (flat (unheads (weigh257 A.v154 A.v158))) bitsLt_bf16_f32) A.wco)
    (rows (k0_pay10 A.bco)))) (k0_pay14 A.g2) (k0_pay15 A.b2) := rfl
  rw [h, pay10_id, pay14_id, pay15_id]
theorem v191_eq : A.v191 = largest768 A.v189 := rfl
/-- The exponents of the rows the feed-forward network reads. -/
def exp1 : FVec Ideal S16384 .f32 := exponent A.v191 (logOf A.v191) ln2
/-- The exponents of the hidden rows. -/
def exp2A : FVec Ideal S16384 .f32 := exponent A.v242 (logOf A.v242) ln2
theorem pay32_eq : k0_pay32 A.v191 A.v203 = A.exp1 := rfl
theorem pay38_eq : k0_pay38 A.v242 A.v245 ln2 = A.exp2A := rfl
theorem h2cA_eq : A.h2cA = codes768 A.v189 A.exp1 := rfl
theorem v240_eq : A.v240 = geluOf (hiddenPre (codes768 A.v189 A.exp1) (exp2 A.exp1) A.wf1 A.sf1 A.bf1) := rfl
theorem v242_eq : A.v242 = largest3072 A.v240 := rfl
theorem gcA_eq : A.gcA = codes3072 A.v240 A.exp2A := rfl
theorem outA_eq : A.outA = truncf .bf16 (norm (addf A.v189 (ffnOut (codes3072 A.v240 A.exp2A) (exp2 A.exp2A) A.wf2 A.sf2 A.bf2)) A.g3 A.b3) bitsLt_bf16_f32 := by
  have h : A.outA = truncf .bf16 (norm (addf A.v189 (ffnOut (codes3072 A.v240 A.exp2A) (exp2 A.exp2A) A.wf2 (k0_pay16 A.sf2) (k0_pay17 A.bf2)))
    (k0_pay18 A.g3) (k0_pay19 A.b3)) bitsLt_bf16_f32 := rfl
  rw [h, pay16_id, pay17_id,
    pay18_id, pay19_id]

/-! ### The values as mathematics -/

theorem exp2_apply' (e : FVec Ideal S16384 .f32) (i : S16384.Idx) : exp2 e i = Ideal.exp2 (e i) := rfl
/-- The scales, one row of an array for each sequence. -/
theorem cast_scale (e : FVec Ideal S16384 .f32) (b : Fin 512) (s : Fin 32) :
    shapeCast S512x32 (exp2 e) shapeCasts_S16384_S512x32 (ix2 b s) = Ideal.exp2 (e (ix1 (row b s))) := by
  pointwise [row]
  rfl

/-- A column is a lane of a head. -/
theorem exists_hcol (c : Fin 768) : ∃ h d, c = hcol h d :=
  ⟨⟨c.val / 64, by omega⟩, ⟨c.val % 64, by omega⟩, Fin.ext (by simp only [hcol]; omega)⟩

theorem v71_apply (b : Fin 512) (s : Fin 32) (h : Fin 12) (d : Fin 64) :
    A.v71 (ix4 b s h d) = ctx1 A.W (A.S b) s (hcol h d) := by
  rw [v71_eq, selfHeads_apply]
  pointwise [lin_apply, rows_apply]
  rfl
theorem flat71_apply (b : Fin 512) (s : Fin 32) (c : Fin 768) :
    flat A.v71 (ix2 (row b s) c) = ctx1 A.W (A.S b) s c := by
  obtain ⟨h, d, rfl⟩ := exists_hcol c
  rw [flat_apply, v71_apply]
theorem v99_apply (b : Fin 512) (s : Fin 32) (c : Fin 768) : A.v99 (ix2 (row b s) c) = h1 A.W (A.S b) s c := by
  rw [v99_eq, norm_apply]
  unfold h1
  congr 1
  funext c
  have hc : asMat (truncf .bf16 (flat A.v71) bitsLt_bf16_f32) (row b s) = ctx1 A.W (A.S b) s := funext fun c => flat71_apply A b s c
  rw [← hc]
  pointwise [asMat, lin_apply, rows_apply]
  rfl
theorem v104_apply (b : Fin 512) (s : Fin 32) (c : Fin 768) : A.v104 (ix2 (row b s) c) = crossQ A.W (A.S b) s c := by
  rw [v104_eq]
  unfold crossQ
  have hc : asMat (truncf .bf16 A.v99 bitsLt_bf16_f32) (row b s) = h1 A.W (A.S b) s := funext fun c => v99_apply A b s c
  rw [← hc]
  pointwise [lin_apply, rows_apply]
  rfl
theorem pay24_apply (v : Vec Ideal S512x256x1408 .fp8e4m3) (b : Fin 512) (j : Fin 256) (c : Fin 1408) :
    k0_pay24 v (ix2 (tok b j) c) = v (ix3 b j c) := by
  pointwise [k0_pay24, tok]
theorem pay25_apply (v : Vec Ideal S512x256 .f32) (b : Fin 512) (j : Fin 256) :
    k0_pay25 v (ix2 (tok b j) 0) = v (ix2 b j) := by
  pointwise [k0_pay25, tok]
theorem kAll_apply (b : Fin 512) (j : Fin 257) (c : Fin 768) :
    A.kAll (ix3 b j c) = withLast (imgK A.W (A.S b)) (A.S b).kext j c := by
  unfold kAll
  rw [joined_apply]
  congr 1
  funext j c
  have hi : asMat (k0_pay24 A.img) (tok b j) = (A.S b).img j := funext fun i => pay24_apply A.img b j i
  pointwise [imgLin_apply, imgCol_apply, imgRows_apply, pay25_apply]
  rw [hi]
  rfl
theorem vAll_apply (b : Fin 512) (j : Fin 257) (c : Fin 768) :
    A.vAll (ix3 b j c) = withLast (imgV A.W (A.S b)) (A.S b).vext j c := by
  unfold vAll
  rw [joined_apply]
  congr 1
  funext j c
  have hi : asMat (k0_pay24 A.img) (tok b j) = (A.S b).img j := funext fun i => pay24_apply A.img b j i
  pointwise [imgLin_apply, imgCol_apply, imgRows_apply, pay25_apply]
  rw [hi]
  rfl
theorem ctx2_apply (b : Fin 512) (s : Fin 32) (c : Fin 768) :
    flat (unheads (weigh257 A.v154 A.v158)) (ix2 (row b s) c) = ctx2 A.W (A.S b) s c := by
  obtain ⟨h, d, rfl⟩ := exists_hcol c
  rw [flat_apply, v154_eq, v158_eq, crossHeads_apply]
  simp only [v104_apply, kAll_apply, vAll_apply]
  rfl
theorem v189_apply (b : Fin 512) (s : Fin 32) (c : Fin 768) : A.v189 (ix2 (row b s) c) = h2 A.W (A.S b) s c := by
  rw [v189_eq, norm_apply]
  unfold h2
  congr 1
  funext c
  have hc : asMat (truncf .bf16 (flat (unheads (weigh257 A.v154 A.v158))) bitsLt_bf16_f32) (row b s) = ctx2 A.W (A.S b) s :=
    funext fun c => ctx2_apply A b s c
  rw [← hc]
  pointwise [asMat, lin_apply, rows_apply, v99_apply]
  rfl
theorem v191_apply (b : Fin 512) (s : Fin 32) : A.v191 (ix1 (row b s)) = absMax (h2 A.W (A.S b) s) := by
  rw [v191_eq, largest768_apply]
  exact congrArg absMax (funext fun c => v189_apply A b s c)
theorem exp1_apply (b : Fin 512) (s : Fin 32) : A.exp1 (ix1 (row b s)) = scaleExp (absMax (h2 A.W (A.S b) s)) := by
  unfold exp1
  rw [ln2_eq, exponent_apply, v191_apply]
theorem h2cA_apply (b : Fin 512) (s : Fin 32) (c : Fin 768) : A.h2cA (ix2 (row b s) c) = h2Codes A.W (A.S b) s c := by
  rw [h2cA_eq, codes768_apply, exp1_apply, v189_apply, h2Codes, codesOf]
theorem h2sA_apply (b : Fin 512) (s : Fin 32) : A.h2sA (ix2 b s) = h2Scale A.W (A.S b) s := by
  have h : A.h2sA (ix2 b s) = Ideal.exp2 (A.exp1 (ix1 (row b s))) := by
    unfold h2sA k0_pay2 k0_pay34
    rw [pay32_eq]
    exact cast_scale A.exp1 b s
  rw [h, exp1_apply, h2Scale, scaleOf]
theorem v240_apply (b : Fin 512) (s : Fin 32) (c : Fin 3072) : A.v240 (ix2 (row b s) c) = hidden A.W (A.S b) s c := by
  have hc : asMat (codes768 A.v189 A.exp1) (row b s) = h2Codes A.W (A.S b) s := funext fun c => h2cA_apply A b s c
  have hs : exp2 A.exp1 (ix1 (row b s)) = h2Scale A.W (A.S b) s := (exp2_apply' A.exp1 _).trans (congrArg Ideal.exp2 (exp1_apply A b s))
  rw [v240_eq, geluOf_apply, hiddenPre_apply, hc, hs, QFormer.hidden]
  rfl
theorem v242_apply (b : Fin 512) (s : Fin 32) : A.v242 (ix1 (row b s)) = absMax (hidden A.W (A.S b) s) := by
  rw [v242_eq, largest3072_apply]
  exact congrArg absMax (funext fun c => v240_apply A b s c)
theorem exp2A_apply (b : Fin 512) (s : Fin 32) : A.exp2A (ix1 (row b s)) = scaleExp (absMax (hidden A.W (A.S b) s)) := by
  unfold exp2A
  rw [ln2_eq, exponent_apply, v242_apply]
theorem gcA_apply (b : Fin 512) (s : Fin 32) (c : Fin 3072) : A.gcA (ix2 (row b s) c) = gCodes A.W (A.S b) s c := by
  rw [gcA_eq, codes3072_apply, exp2A_apply, v240_apply, gCodes, codesOf]
theorem gsA_apply (b : Fin 512) (s : Fin 32) : A.gsA (ix2 b s) = gScale A.W (A.S b) s := by
  have h : A.gsA (ix2 b s) = Ideal.exp2 (A.exp2A (ix1 (row b s))) := by
    unfold gsA k0_pay3 k0_pay40
    rw [pay38_eq]
    exact cast_scale A.exp2A b s
  rw [h, exp2A_apply, gScale, scaleOf]
theorem outA_apply (b : Fin 512) (s : Fin 32) (c : Fin 768) : A.outA (ix2 (row b s) c) = out A.W (A.S b) s c := by
  rw [outA_eq]
  show norm _ _ _ _ = _
  rw [norm_apply]
  unfold out
  congr 1
  funext c
  have hc : asMat (codes3072 A.v240 A.exp2A) (row b s) = gCodes A.W (A.S b) s := funext fun c => gcA_apply A b s c
  have hs : exp2 A.exp2A (ix1 (row b s)) = gScale A.W (A.S b) s := (exp2_apply' A.exp2A _).trans (congrArg Ideal.exp2 (exp2A_apply A b s))
  show A.v189 _ + ffnOut _ _ _ _ _ _ = _
  rw [ffnOut_apply, v189_apply, hc, hs]; rfl

end In

end Cert.ReferenceIdeal.Ref
-- ==== Proof.RefArrays.lean ====
/-
  The reference's result arrays, from the arguments.
-/
module

public import proofs.«01_k».proof.Proof.Gen.ReferenceIdeal.Value
public import proofs.«01_k».proof.Proof.RefLayer
public import proofs.«01_k».proof.Proof.Args
public import Idealize.ShloMosaic.Lib.Pipeline.ValueKit
public import Idealize.ShloMosaic.Lib.Pointwise

@[expose] public section

set_option maxRecDepth 16384

noncomputable section

namespace Cert.ReferenceIdeal.Ref

open Idealize.ShloMosaic Idealize.ShloMosaic.TcCoe Cert.ReferenceIdeal Cert.ReferenceIdeal.Gen QFormer

variable (m : (ℓ : Loc nD τ sig) → Buf (Elt Ideal) ℓ) (c : Dev nD)

/-- The arguments in memory. -/
def args : Args where
  x := m ((c.tc : Thread nD τ).loc main_arg0)
  img := m ((c.tc : Thread nD τ).loc main_arg1)
  isc := m ((c.tc : Thread nD τ).loc main_arg2)
  kext := m ((c.tc : Thread nD τ).loc main_arg3)
  vext := m ((c.tc : Thread nD τ).loc main_arg4)
  wsq := m ((c.tc : Thread nD τ).loc main_arg5)
  wsk := m ((c.tc : Thread nD τ).loc main_arg6)
  wsv := m ((c.tc : Thread nD τ).loc main_arg7)
  wso := m ((c.tc : Thread nD τ).loc main_arg8)
  bsq := m ((c.tc : Thread nD τ).loc main_arg9)
  bsv := m ((c.tc : Thread nD τ).loc main_arg10)
  bso := m ((c.tc : Thread nD τ).loc main_arg11)
  g1 := m ((c.tc : Thread nD τ).loc main_arg12)
  b1 := m ((c.tc : Thread nD τ).loc main_arg13)
  wcq := m ((c.tc : Thread nD τ).loc main_arg14)
  wco := m ((c.tc : Thread nD τ).loc main_arg15)
  bcq := m ((c.tc : Thread nD τ).loc main_arg16)
  bco := m ((c.tc : Thread nD τ).loc main_arg17)
  wck := m ((c.tc : Thread nD τ).loc main_arg18)
  wcv := m ((c.tc : Thread nD τ).loc main_arg19)
  sck := m ((c.tc : Thread nD τ).loc main_arg20)
  scv := m ((c.tc : Thread nD τ).loc main_arg21)
  bcv := m ((c.tc : Thread nD τ).loc main_arg22)
  g2 := m ((c.tc : Thread nD τ).loc main_arg23)
  b2 := m ((c.tc : Thread nD τ).loc main_arg24)
  wf1 := m ((c.tc : Thread nD τ).loc main_arg25)
  sf1 := m ((c.tc : Thread nD τ).loc main_arg26)
  bf1 := m ((c.tc : Thread nD τ).loc main_arg27)
  wf2 := m ((c.tc : Thread nD τ).loc main_arg28)
  sf2 := m ((c.tc : Thread nD τ).loc main_arg29)
  bf2 := m ((c.tc : Thread nD τ).loc main_arg30)
  g3 := m ((c.tc : Thread nD τ).loc main_arg31)
  b3 := m ((c.tc : Thread nD τ).loc main_arg32)

/-- What the reference's one run loads, from the blocks it is given. -/
def In.ofBlocks (x0 : Vec Ideal S16384x768 .bf16) (x1 : Vec Ideal S512x256x1408 .fp8e4m3) (x2 : Vec Ideal S512x256 .f32)
    (x3 x4 : Vec Ideal S512x1x768 .f32) (x5 x6 x7 x8 x9 x10 : Vec Ideal S768x768 .bf16) (x11 x12 : Vec Ideal S1408x768 .fp8e4m3)
    (x13 : Vec Ideal S768x3072 .fp8e4m3) (x14 : Vec Ideal S3072x768 .fp8e4m3) (x15 : Vec Ideal S16x768 .f32)
    (x16 x17 : Vec Ideal S1x3072 .f32) : In where
  x := View.ld x0 r0_16
  img := View.ld x1 r0_18
  isc := View.ld x2 r0_19
  kx := View.ld x3 r0_21
  vx := View.ld x4 r0_21
  wsq := View.ld x5 r0_17
  wsk := View.ld x6 r0_17
  wsv := View.ld x7 r0_17
  wso := View.ld x8 r0_17
  wcq := View.ld x9 r0_17
  wco := View.ld x10 r0_17
  wck := View.ld x11 r0_20
  wcv := View.ld x12 r0_20
  wf1 := View.ld x13 r0_22
  wf2 := View.ld x14 r0_24
  bsq := View.ld x15 r0_0
  bsv := View.ld x15 r0_1
  bso := View.ld x15 r0_2
  g1 := View.ld x15 r0_3
  b1 := View.ld x15 r0_4
  bcq := View.ld x15 r0_5
  bco := View.ld x15 r0_6
  sck := View.ld x15 r0_7
  scv := View.ld x15 r0_8
  bcv := View.ld x15 r0_9
  g2 := View.ld x15 r0_10
  b2 := View.ld x15 r0_11
  sf2 := View.ld x15 r0_12
  bf2 := View.ld x15 r0_13
  g3 := View.ld x15 r0_14
  b3 := View.ld x15 r0_15
  sf1 := View.ld x16 r0_23
  bf1 := View.ld x17 r0_23

section
variable (x0 : Vec Ideal S16384x768 .bf16) (x1 : Vec Ideal S512x256x1408 .fp8e4m3) (x2 : Vec Ideal S512x256 .f32)
  (x3 x4 : Vec Ideal S512x1x768 .f32) (x5 x6 x7 x8 x9 x10 : Vec Ideal S768x768 .bf16) (x11 x12 : Vec Ideal S1408x768 .fp8e4m3)
  (x13 : Vec Ideal S768x3072 .fp8e4m3) (x14 : Vec Ideal S3072x768 .fp8e4m3) (x15 : Vec Ideal S16x768 .f32)
  (x16 x17 : Vec Ideal S1x3072 .f32)

/-! ### What the run leaves in the buffers of the results -/

theorem left18 : out0_18 (F := Ideal) x0 x1 x2 x3 x4 x5 x6 x7 x8 x9 x10 x11 x12 x13 x14 x15 x16 x17 = (In.ofBlocks x0 x1 x2 x3 x4 x5 x6 x7 x8 x9 x10 x11 x12 x13 x14 x15 x16 x17).outA := by
  unfold out0_18
  refine (View.canon_cons_unit_lit _ _ _ (by decide)).trans ?_
  rfl
theorem left19 : out0_19 (F := Ideal) x0 x1 x2 x3 x4 x5 x6 x7 x8 x9 x10 x11 x12 x13 x14 x15 x16 x17 = (In.ofBlocks x0 x1 x2 x3 x4 x5 x6 x7 x8 x9 x10 x11 x12 x13 x14 x15 x16 x17).h2cA := by
  unfold out0_19
  refine (View.canon_cons_unit_lit _ _ _ (by decide)).trans ?_
  rfl
theorem left20 : out0_20 (F := Ideal) x0 x1 x2 x3 x4 x5 x6 x7 x8 x9 x10 x11 x12 x13 x14 x15 x16 x17 = (In.ofBlocks x0 x1 x2 x3 x4 x5 x6 x7 x8 x9 x10 x11 x12 x13 x14 x15 x16 x17).h2sA := by
  unfold out0_20
  refine (View.canon_cons_unit_lit _ _ _ (by decide)).trans ?_
  rfl
theorem left21 : out0_21 (F := Ideal) x0 x1 x2 x3 x4 x5 x6 x7 x8 x9 x10 x11 x12 x13 x14 x15 x16 x17 = (In.ofBlocks x0 x1 x2 x3 x4 x5 x6 x7 x8 x9 x10 x11 x12 x13 x14 x15 x16 x17).gcA := by
  unfold out0_21
  refine (View.canon_cons_unit_lit _ _ _ (by decide)).trans ?_
  rfl
theorem left22 : out0_22 (F := Ideal) x0 x1 x2 x3 x4 x5 x6 x7 x8 x9 x10 x11 x12 x13 x14 x15 x16 x17 = (In.ofBlocks x0 x1 x2 x3 x4 x5 x6 x7 x8 x9 x10 x11 x12 x13 x14 x15 x16 x17).gsA := by
  unfold out0_22
  refine (View.canon_cons_unit_lit _ _ _ (by decide)).trans ?_
  rfl

end

/-- What the reference's one run loads. -/
def inputs (t : Fin cfg0.N) : In :=
  In.ofBlocks (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

variable (t : Fin cfg0.N)

theorem after18 : (dats m 0 c).after 18 t = (inputs m c t).outA := by
  rw [after0_18]
  exact left18 _ _ _ _ _ _ _ _ _ _ _ _ _ _ _ _ _ _

theorem after19 : (dats m 0 c).after 19 t = (inputs m c t).h2cA := by
  rw [after0_19]
  exact left19 _ _ _ _ _ _ _ _ _ _ _ _ _ _ _ _ _ _

theorem after20 : (dats m 0 c).after 20 t = (inputs m c t).h2sA := by
  rw [after0_20]
  exact left20 _ _ _ _ _ _ _ _ _ _ _ _ _ _ _ _ _ _

theorem after21 : (dats m 0 c).after 21 t = (inputs m c t).gcA := by
  rw [after0_21]
  exact left21 _ _ _ _ _ _ _ _ _ _ _ _ _ _ _ _ _ _

theorem after22 : (dats m 0 c).after 22 t = (inputs m c t).gsA := by
  rw [after0_22]
  exact left22 _ _ _ _ _ _ _ _ _ _ _ _ _ _ _ _ _ _

/-! ### Where the blocks lie -/

theorem idx_seqs : ∀ t : Fin cfg0.N, win0_0.index t = ![0, 0] ∧ win0_1.index t = ![0, 0, 0] ∧ win0_2.index t = ![0, 0]
    ∧ win0_3.index t = ![0, 0, 0] ∧ win0_4.index t = ![0, 0, 0] := by decide +kernel
theorem idx_weights1 : ∀ t : Fin cfg0.N, win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] := by decide +kernel
theorem idx_weights2 : ∀ t : Fin cfg0.N, win0_12.index t = ![0, 0] ∧ win0_13.index t = ![0, 0] ∧ win0_14.index t = ![0, 0] ∧ win0_15.index t = ![0, 0]
    ∧ win0_16.index t = ![0, 0] ∧ win0_17.index t = ![0, 0] := by decide +kernel
theorem idx_outs : ∀ t : Fin cfg0.N, win0_18.index t = ![0, 0] ∧ win0_19.index t = ![0, 0] ∧ win0_20.index t = ![0, 0]
    ∧ win0_21.index t = ![0, 0] ∧ win0_22.index t = ![0, 0] := by decide +kernel

/-! ### The whole blocks are their arrays -/

theorem emb0 (y : S16384x768.Idx) : (win0_0.blk t).view.emb y = y := by
  obtain ⟨e0, e1, e2, e3, e4⟩ := idx_seqs t
  funext a; apply Fin.ext
  fin_cases a <;> blk_simp [e0]
theorem emb1 (y : S512x256x1408.Idx) : (win0_1.blk t).view.emb y = y := by
  obtain ⟨e0, e1, e2, e3, e4⟩ := idx_seqs t
  funext a; apply Fin.ext
  fin_cases a <;> blk_simp [e1]
theorem emb2 (y : S512x256.Idx) : (win0_2.blk t).view.emb y = y := by
  obtain ⟨e0, e1, e2, e3, e4⟩ := idx_seqs t
  funext a; apply Fin.ext
  fin_cases a <;> blk_simp [e2]
theorem emb3 (y : S512x1x768.Idx) : (win0_3.blk t).view.emb y = y := by
  obtain ⟨e0, e1, e2, e3, e4⟩ := idx_seqs t
  funext a; apply Fin.ext
  fin_cases a <;> blk_simp [e3]
theorem emb4 (y : S512x1x768.Idx) : (win0_4.blk t).view.emb y = y := by
  obtain ⟨e0, e1, e2, e3, e4⟩ := idx_seqs t
  funext a; apply Fin.ext
  fin_cases a <;> blk_simp [e4]
theorem emb16 (y : S1x3072.Idx) : (win0_16.blk t).view.emb y = y := by
  obtain ⟨e12, e13, e14, e15, e16, e17⟩ := idx_weights2 t
  funext a; apply Fin.ext
  fin_cases a <;> blk_simp [e16]
theorem emb17 (y : S1x3072.Idx) : (win0_17.blk t).view.emb y = y := by
  obtain ⟨e12, e13, e14, e15, e16, e17⟩ := idx_weights2 t
  funext a; apply Fin.ext
  fin_cases a <;> blk_simp [e17]
theorem blk0 (b : Fin 512) (s : Fin 32) (i : Fin 768) : iblk m c 0 t (ix2 (row b s) i) = (args m c).x (ix3 b s i) :=
  (congrArg (V m c main_v0) (emb0 t _)).trans (by unfold args; blk_ext! [V, row])
theorem blk1 (b : Fin 512) (j : Fin 256) (i : Fin 1408) : iblk m c 1 t (ix3 b j i) = (args m c).img (ix3 b ⟨j.val, by omega⟩ i) :=
  (congrArg (V m c main_v1) (emb1 t _)).trans (by unfold args; entry_read; pointwise)
theorem blk2 (b : Fin 512) (j : Fin 256) : iblk m c 2 t (ix2 b j) = (args m c).isc (ix2 b ⟨j.val, by omega⟩) :=
  (congrArg (V m c main_v2) (emb2 t _)).trans (by unfold args; entry_read; pointwise)
theorem blk3 (b : Fin 512) (i : Fin 768) : iblk m c 3 t (ix3 b 0 i) = (args m c).kext (ix2 b i) :=
  (congrArg (V m c main_v3) (emb3 t _)).trans (by unfold args; entry_read; pointwise)
theorem blk4 (b : Fin 512) (i : Fin 768) : iblk m c 4 t (ix3 b 0 i) = (args m c).vext (ix2 b i) :=
  (congrArg (V m c main_v4) (emb4 t _)).trans (by unfold args; entry_read; pointwise)
theorem blk16 (i : Fin 3072) : iblk m c 16 t (ix2 0 i) = (args m c).sf1 (ix1 i) :=
  (congrArg (V m c main_v22) (emb16 t _)).trans (by unfold args; entry_read; pointwise)
theorem blk17 (i : Fin 3072) : iblk m c 17 t (ix2 0 i) = (args m c).bf1 (ix1 i) :=
  (congrArg (V m c main_v23) (emb17 t _)).trans (by unfold args; entry_read; pointwise)
theorem blk5 : iblk m c 5 t = (args m c).wsq := by
  obtain ⟨e5, e6, e7, e8, e9, e10, e11⟩ := idx_weights1 t
  unfold args; funext y
  blk_ext! [iblk, V, e5]
theorem blk6 : iblk m c 6 t = (args m c).wsk := by
  obtain ⟨e5, e6, e7, e8, e9, e10, e11⟩ := idx_weights1 t
  unfold args; funext y
  blk_ext! [iblk, V, e6]
theorem blk7 : iblk m c 7 t = (args m c).wsv := by
  obtain ⟨e5, e6, e7, e8, e9, e10, e11⟩ := idx_weights1 t
  unfold args; funext y
  blk_ext! [iblk, V, e7]
theorem blk8 : iblk m c 8 t = (args m c).wso := by
  obtain ⟨e5, e6, e7, e8, e9, e10, e11⟩ := idx_weights1 t
  unfold args; funext y
  blk_ext! [iblk, V, e8]
theorem blk9 : iblk m c 9 t = (args m c).wcq := by
  obtain ⟨e5, e6, e7, e8, e9, e10, e11⟩ := idx_weights1 t
  unfold args; funext y
  blk_ext! [iblk, V, e9]
theorem blk10 : iblk m c 10 t = (args m c).wco := by
  obtain ⟨e5, e6, e7, e8, e9, e10, e11⟩ := idx_weights1 t
  unfold args; funext y
  blk_ext! [iblk, V, e10]
theorem blk11 : iblk m c 11 t = (args m c).wck := by
  obtain ⟨e5, e6, e7, e8, e9, e10, e11⟩ := idx_weights1 t
  unfold args; funext y
  blk_ext! [iblk, V, e11]
theorem blk12 : iblk m c 12 t = (args m c).wcv := by
  obtain ⟨e12, e13, e14, e15, e16, e17⟩ := idx_weights2 t
  unfold args; funext y
  blk_ext! [iblk, V, e12]
theorem blk13 : iblk m c 13 t = (args m c).wf1 := by
  obtain ⟨e12, e13, e14, e15, e16, e17⟩ := idx_weights2 t
  unfold args; funext y
  blk_ext! [iblk, V, e13]
theorem blk14 : iblk m c 14 t = (args m c).wf2 := by
  obtain ⟨e12, e13, e14, e15, e16, e17⟩ := idx_weights2 t
  unfold args; funext y
  blk_ext! [iblk, V, e14]

/-! ### The stacked vectors -/

/-- What memory holds before the vectors are stacked. -/
def unstacked : Valuation τ sig (Elt Ideal) := StableHlo.after (hostOps0.take 21) (fun b => m (c, b))
theorem V_eq_unstacked (r : Ref sig .tc) (hr : r ∉ [main_v21, main_v22, main_v23]) : V m c r = unstacked m c r := by
  show StableHlo.after (hostOps0.drop 21) (unstacked m c) r = _
  refine StableHlo.after_of_writes_sub (W := [main_v21, main_v22, main_v23]) _ _ ?_ hr
  simp only [hostOps0, List.drop_succ_cons, List.drop_zero, List.Forall, StableHlo.nary_writes, StableHlo.reshape_writes]
  simp
theorem V_stacked : V m c main_v21 = concatenate S16x768 0 [⟨S1x768, (unstacked m c main_v5 : Vec Ideal S1x768 .f32)⟩, ⟨S1x768, (unstacked m c main_v6 : Vec Ideal S1x768 .f32)⟩, ⟨S1x768, (unstacked m c main_v7 : Vec Ideal S1x768 .f32)⟩, ⟨S1x768, (unstacked m c main_v8 : Vec Ideal S1x768 .f32)⟩, ⟨S1x768, (unstacked m c main_v9 : Vec Ideal S1x768 .f32)⟩, ⟨S1x768, (unstacked m c main_v10 : Vec Ideal S1x768 .f32)⟩, ⟨S1x768, (unstacked m c main_v11 : Vec Ideal S1x768 .f32)⟩, ⟨S1x768, (unstacked m c main_v12 : Vec Ideal S1x768 .f32)⟩, ⟨S1x768, (unstacked m c main_v13 : Vec Ideal S1x768 .f32)⟩, ⟨S1x768, (unstacked m c main_v14 : Vec Ideal S1x768 .f32)⟩, ⟨S1x768, (unstacked m c main_v15 : Vec Ideal S1x768 .f32)⟩, ⟨S1x768, (unstacked m c main_v16 : Vec Ideal S1x768 .f32)⟩, ⟨S1x768, (unstacked m c main_v17 : Vec Ideal S1x768 .f32)⟩, ⟨S1x768, (unstacked m c main_v18 : Vec Ideal S1x768 .f32)⟩, ⟨S1x768, (unstacked m c main_v19 : Vec Ideal S1x768 .f32)⟩, ⟨S1x768, (unstacked m c main_v20 : Vec Ideal S1x768 .f32)⟩]
      concatenates_S1x768_S1x768_S1x768_S1x768_S1x768_S1x768_S1x768_S1x768_S1x768_S1x768_S1x768_S1x768_S1x768_S1x768_S1x768_S1x768_S16x768_d0 := by
  show StableHlo.after (hostOps0.drop 21) (unstacked m c) main_v21 = _
  generalize unstacked m c = F
  simp only [hostOps0, List.drop_succ_cons, List.drop_zero, StableHlo.after_cons, StableHlo.after_nil]
  rw [StableHlo.result_of_writes_ne _ _ main_v23 _ rfl (by decide), StableHlo.result_of_writes_ne _ _ main_v22 _ rfl (by decide), StableHlo.nary_result]
  rfl
/-- The stacked rows, and the vectors they come from. -/
def vecRows : Fin 16 → Vec Ideal S1x768 .f32 :=
  ![unstacked m c main_v5, unstacked m c main_v6, unstacked m c main_v7, unstacked m c main_v8, unstacked m c main_v9, unstacked m c main_v10, unstacked m c main_v11, unstacked m c main_v12, unstacked m c main_v13, unstacked m c main_v14, unstacked m c main_v15, unstacked m c main_v16, unstacked m c main_v17, unstacked m c main_v18, unstacked m c main_v19, unstacked m c main_v20]
def vecs : Fin 16 → Tensor 1 ![768] :=
  ![m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg16), m ((c.tc : Thread nD τ).loc main_arg17), m ((c.tc : Thread nD τ).loc main_arg20), m ((c.tc : Thread nD τ).loc main_arg21), m ((c.tc : Thread nD τ).loc main_arg22), m ((c.tc : Thread nD τ).loc main_arg23), m ((c.tc : Thread nD τ).loc main_arg24), m ((c.tc : Thread nD τ).loc main_arg29), m ((c.tc : Thread nD τ).loc main_arg30), m ((c.tc : Thread nD τ).loc main_arg31), m ((c.tc : Thread nD τ).loc main_arg32)]
set_option maxHeartbeats 4000000 in
theorem V_stacked_rows : V m c main_v21 = concatenate S16x768 0
      (List.ofFn fun n : Fin 16 => (⟨S1x768, vecRows m c n⟩ : (s : Shape) × (s.Idx → Elt Ideal .f32))) concatenates_S1x768_S1x768_S1x768_S1x768_S1x768_S1x768_S1x768_S1x768_S1x768_S1x768_S1x768_S1x768_S1x768_S1x768_S1x768_S1x768_S16x768_d0 :=
  V_stacked m c
theorem V_row (k : Fin 16) (i : Fin 768) : V m c main_v21 (ix2 k i) = vecRows m c k (ix2 0 i) := by
  rw [V_stacked_rows]
  exact concatenate_ofFn_apply (t := S16x768) (s₁ := S1x768) 0 (vecRows m c) _ rfl 1 rfl (ix2 k i : S16x768.Idx) k (Nat.div_one _) (ix2 0 i : S1x768.Idx)
    (Nat.mod_one _).symm (fun b hb => by
      fin_cases b
      · exact absurd rfl hb
      · rfl)
set_option maxHeartbeats 4000000 in
theorem vecRows_eq (k : Fin 16) (i : Fin 768) : vecRows m c k (ix2 0 i) = vecs m c k (ix1 i) := by
  fin_cases k <;> simp only [vecRows, vecs, Fin.zero_eta, Fin.mk_one, Fin.reduceFinMk, Matrix.cons_val] <;>
    (rw [← V_eq_unstacked m c _ (by decide)]; entry_read; pointwise)
/-- The stacked block holds the vectors, one a row. -/
theorem emb15 (y : S16x768.Idx) : (win0_15.blk t).view.emb y = y := by
  obtain ⟨e12, e13, e14, e15, e16, e17⟩ := idx_weights2 t
  funext a; apply Fin.ext
  fin_cases a <;> blk_simp [e15]
theorem blk15 (k : Fin 16) (i : Fin 768) : iblk m c 15 t (ix2 k i) = vecs m c k (ix1 i) :=
  (congrArg (V m c main_v21) (emb15 t (ix2 k i))).trans ((V_row m c k i).trans (vecRows_eq m c k i))
theorem ld_row (X : Vec Ideal S16x768 .f32) (k : Fin 16) (inb : ∀ a, (![k.val, 0] : Fin 2 → ℕ) a + S1x768.size a ≤ S16x768.size a) (i : Fin 768) :
    View.ld X (Rect.unit (s := S16x768) ![k.val, 0] S1x768.size inb) (ix2 0 i) = X (ix2 k i) := by
  refine congrArg X ?_
  funext a; apply Fin.ext
  fin_cases a
  · exact Nat.add_zero _
  · exact (Nat.zero_add _).trans (Nat.one_mul _)

/-! ### The run is given the arguments -/

theorem S_eq (b : Fin 512) : (inputs m c t).S b = (args m c).S b := by
  unfold In.S Args.S inputs In.ofBlocks asMat
  simp only [Seq.mk.injEq]
  refine ⟨funext fun s => funext fun i => ?_, funext fun j => funext fun i => ?_, funext fun j => ?_, funext fun i => ?_, funext fun i => ?_⟩
  · exact (congrFun (View.ld_unit_lit _ _ (by decide)) _).trans (blk0 m c t b s i)
  · exact (congrFun (View.ld_unit_lit _ _ (by decide)) _).trans (blk1 m c t b j i)
  · exact (congrFun (View.ld_unit_lit _ _ (by decide)) _).trans (blk2 m c t b j)
  · exact (congrFun (View.ld_unit_lit _ _ (by decide)) _).trans (blk3 m c t b i)
  · exact (congrFun (View.ld_unit_lit _ _ (by decide)) _).trans (blk4 m c t b i)

theorem W_eq : (inputs m c t).W = (args m c).W := by
  unfold In.W Args.W inputs In.ofBlocks asMat
  simp only [Weights.mk.injEq]
  refine ⟨?_, ?_, ?_, ?_, ?_, ?_, ?_, ?_, ?_, ?_, ?_, ?_, ?_, ?_, ?_, ?_, ?_, ?_, ?_, ?_, ?_, ?_, ?_, ?_, ?_, ?_, ?_, ?_⟩
  · exact funext fun _ => funext fun _ => (congrFun (View.ld_unit_lit _ _ (by decide)) _).trans (congrFun (blk5 m c t) _)
  · exact funext fun _ => funext fun _ => (congrFun (View.ld_unit_lit _ _ (by decide)) _).trans (congrFun (blk6 m c t) _)
  · exact funext fun _ => funext fun _ => (congrFun (View.ld_unit_lit _ _ (by decide)) _).trans (congrFun (blk7 m c t) _)
  · exact funext fun _ => funext fun _ => (congrFun (View.ld_unit_lit _ _ (by decide)) _).trans (congrFun (blk8 m c t) _)
  · exact funext fun i => (ld_row _ 0 _ i).trans (blk15 m c t 0 i)
  · exact funext fun i => (ld_row _ 1 _ i).trans (blk15 m c t 1 i)
  · exact funext fun i => (ld_row _ 2 _ i).trans (blk15 m c t 2 i)
  · exact funext fun i => (ld_row _ 3 _ i).trans (blk15 m c t 3 i)
  · exact funext fun i => (ld_row _ 4 _ i).trans (blk15 m c t 4 i)
  · exact funext fun _ => funext fun _ => (congrFun (View.ld_unit_lit _ _ (by decide)) _).trans (congrFun (blk9 m c t) _)
  · exact funext fun _ => funext fun _ => (congrFun (View.ld_unit_lit _ _ (by decide)) _).trans (congrFun (blk10 m c t) _)
  · exact funext fun i => (ld_row _ 5 _ i).trans (blk15 m c t 5 i)
  · exact funext fun i => (ld_row _ 6 _ i).trans (blk15 m c t 6 i)
  · exact funext fun _ => funext fun _ => (congrFun (View.ld_unit_lit _ _ (by decide)) _).trans (congrFun (blk11 m c t) _)
  · exact funext fun _ => funext fun _ => (congrFun (View.ld_unit_lit _ _ (by decide)) _).trans (congrFun (blk12 m c t) _)
  · exact funext fun i => (ld_row _ 7 _ i).trans (blk15 m c t 7 i)
  · exact funext fun i => (ld_row _ 8 _ i).trans (blk15 m c t 8 i)
  · exact funext fun i => (ld_row _ 9 _ i).trans (blk15 m c t 9 i)
  · exact funext fun i => (ld_row _ 10 _ i).trans (blk15 m c t 10 i)
  · exact funext fun i => (ld_row _ 11 _ i).trans (blk15 m c t 11 i)
  · exact funext fun _ => funext fun _ => (congrFun (View.ld_unit_lit _ _ (by decide)) _).trans (congrFun (blk13 m c t) _)
  · exact funext fun i => (congrFun (View.ld_unit_lit _ _ (by decide)) _).trans (blk16 m c t i)
  · exact funext fun i => (congrFun (View.ld_unit_lit _ _ (by decide)) _).trans (blk17 m c t i)
  · exact funext fun _ => funext fun _ => (congrFun (View.ld_unit_lit _ _ (by decide)) _).trans (congrFun (blk14 m c t) _)
  · exact funext fun i => (ld_row _ 12 _ i).trans (blk15 m c t 12 i)
  · exact funext fun i => (ld_row _ 13 _ i).trans (blk15 m c t 13 i)
  · exact funext fun i => (ld_row _ 14 _ i).trans (blk15 m c t 14 i)
  · exact funext fun i => (ld_row _ 15 _ i).trans (blk15 m c t 15 i)

/-! ### The arrays of the results -/

/-- Every row of the rows of all sequences is some sequence's token. -/
theorem exists_row (r : Fin 16384) : ∃ (b : Fin 512) (s : Fin 32), r = row b s :=
  ⟨⟨r.val / 32, by omega⟩, ⟨r.val % 32, by omega⟩, Fin.ext (by simp only [row]; omega)⟩

theorem arr18 : (dats m 0 c).arrAt 18 cfg0.N = outArr (args m c) := by
  refine (dats m 0 c).arrAt_eq_of_covers 18 _ (by decide +kernel) fun t hf y => ?_
  obtain ⟨e18, e19, e20, e21, e22⟩ := idx_outs t
  obtain ⟨r, j, rfl⟩ : ∃ (r : Fin 16384) (j : Fin 768), y = ix2 r j := ⟨y 0, y 1, eq_ix2 y⟩
  obtain ⟨b, s, rfl⟩ := exists_row r
  unfold outArr
  rw [stack_at _ _ b s j (by blk_simp [e18]; rfl) (by blk_simp [e18]), ← W_eq m c t, ← S_eq m c t b]
  exact (congrFun (after18 m c t) _).trans (In.outA_apply (inputs m c t) b s j)
theorem arr19 : (dats m 0 c).arrAt 19 cfg0.N = h2CodesArr (args m c) := by
  refine (dats m 0 c).arrAt_eq_of_covers 19 _ (by decide +kernel) fun t hf y => ?_
  obtain ⟨e18, e19, e20, e21, e22⟩ := idx_outs t
  obtain ⟨r, j, rfl⟩ : ∃ (r : Fin 16384) (j : Fin 768), y = ix2 r j := ⟨y 0, y 1, eq_ix2 y⟩
  obtain ⟨b, s, rfl⟩ := exists_row r
  unfold h2CodesArr
  rw [stack_at _ _ b s j (by blk_simp [e19]; rfl) (by blk_simp [e19]), ← W_eq m c t, ← S_eq m c t b]
  exact (congrFun (after19 m c t) _).trans (In.h2cA_apply (inputs m c t) b s j)
theorem arr21 : (dats m 0 c).arrAt 21 cfg0.N = gCodesArr (args m c) := by
  refine (dats m 0 c).arrAt_eq_of_covers 21 _ (by decide +kernel) fun t hf y => ?_
  obtain ⟨e18, e19, e20, e21, e22⟩ := idx_outs t
  obtain ⟨r, j, rfl⟩ : ∃ (r : Fin 16384) (j : Fin 3072), y = ix2 r j := ⟨y 0, y 1, eq_ix2 y⟩
  obtain ⟨b, s, rfl⟩ := exists_row r
  unfold gCodesArr
  rw [stack_at _ _ b s j (by blk_simp [e21]; rfl) (by blk_simp [e21]), ← W_eq m c t, ← S_eq m c t b]
  exact (congrFun (after21 m c t) _).trans (In.gcA_apply (inputs m c t) b s j)
theorem arr20 : (dats m 0 c).arrAt 20 cfg0.N = h2ScaleArr (args m c) := by
  refine (dats m 0 c).arrAt_eq_of_covers 20 _ (by decide +kernel) fun t hf y => ?_
  obtain ⟨e18, e19, e20, e21, e22⟩ := idx_outs t
  obtain ⟨b, s, rfl⟩ : ∃ (b : Fin 512) (s : Fin 32), y = ix2 b s := ⟨y 0, y 1, eq_ix2 y⟩
  unfold h2ScaleArr
  rw [perRow_at _ _ b s (by blk_simp [e20]) (by blk_simp [e20]), ← W_eq m c t, ← S_eq m c t b]
  exact (congrFun (after20 m c t) _).trans (In.h2sA_apply (inputs m c t) b s)
theorem arr22 : (dats m 0 c).arrAt 22 cfg0.N = gScaleArr (args m c) := by
  refine (dats m 0 c).arrAt_eq_of_covers 22 _ (by decide +kernel) fun t hf y => ?_
  obtain ⟨e18, e19, e20, e21, e22⟩ := idx_outs t
  obtain ⟨b, s, rfl⟩ : ∃ (b : Fin 512) (s : Fin 32), y = ix2 b s := ⟨y 0, y 1, eq_ix2 y⟩
  unfold gScaleArr
  rw [perRow_at _ _ b s (by blk_simp [e22]) (by blk_simp [e22]), ← W_eq m c t, ← S_eq m c t b]
  exact (congrFun (after22 m c t) _).trans (In.gsA_apply (inputs m c t) b s)

end Cert.ReferenceIdeal.Ref
-- ==== Proof.lean ====
/-
  The claims about the layer: all three programs run and leave their arguments as they were, the named constants
  stand for the numbers they are given as, and over the extended reals the kernel's five results are the reference's.
-/
module

public import proofs.«01_k».proof.Defs
public import proofs.«01_k».proof.Proof.FrameKernel
public import proofs.«01_k».proof.Proof.FrameKernelIdeal
public import proofs.«01_k».proof.Proof.Gen.ReferenceIdeal.Value
public import proofs.«01_k».proof.Proof.ValueKernelIdeal
public import proofs.«01_k».proof.Proof.KArrays
public import proofs.«01_k».proof.Proof.RefArrays
public import Idealize.ShloMosaic.Adequacy
public import Idealize.ShloMosaic.Init

@[expose] public section

noncomputable section

namespace Cert.Proof

open Idealize.ShloMosaic Idealize.SL.Sem

theorem preserves : preserves_Kernel_KernelIdeal :=
  ⟨IdealRules.named_const.statement Cert.KernelIdeal.κ "score_scale_log2e" .f32 0x3E38AA3B#32 _ rfl,
    IdealRules.named_const.statement Cert.KernelIdeal.κ "inv_d_model" .f32 0x3AAAAAAB#32 _ rfl⟩

open Cert.KernelIdeal.Blk (args) in
/-- Both programs compute the layer of their arguments. -/
theorem algebraic : algebraic_KernelIdeal_ReferenceIdeal := fun m g m' g' _ h => by
  have hargs : ∀ c : Dev Cert.KernelIdeal.nD, Cert.ReferenceIdeal.Ref.args m' c = args m c := fun c => by
    unfold Cert.ReferenceIdeal.Ref.args Cert.KernelIdeal.Blk.args
    simp only [QFormer.Args.mk.injEq]
    exact h c
  refine ⟨fun c => QFormer.outArr (args m c), fun c => QFormer.h2CodesArr (args m c), fun c => QFormer.h2ScaleArr (args m c),
    fun c => QFormer.gCodesArr (args m c), fun c => QFormer.gScaleArr (args m c), ?_, ?_⟩
  · refine θ_run_mono (Cert.KernelIdeal.Value.run_blocks m g) fun r hr c => ?_
    obtain ⟨h0, h1, h2, h3, h4, hrest⟩ := hr c
    exact ⟨h0.trans (Cert.KernelIdeal.Blk.arr33 m c), h1.trans (Cert.KernelIdeal.Blk.arr34 m c), h2.trans (Cert.KernelIdeal.Blk.arr35 m c),
      h3.trans (Cert.KernelIdeal.Blk.arr36 m c), h4.trans (Cert.KernelIdeal.Blk.arr37 m c), hrest⟩
  · refine θ_run_mono (Cert.ReferenceIdeal.Value.run_blocks m' g') fun r hr c => ?_
    obtain ⟨h0, h1, h2, h3, h4, hrest⟩ := hr c
    rw [Cert.ReferenceIdeal.Ref.arr18, hargs] at h0
    rw [Cert.ReferenceIdeal.Ref.arr19, hargs] at h1
    rw [Cert.ReferenceIdeal.Ref.arr20, hargs] at h2
    rw [Cert.ReferenceIdeal.Ref.arr21, hargs] at h3
    rw [Cert.ReferenceIdeal.Ref.arr22, hargs] at h4
    exact ⟨h0, h1, h2, h3, h4, hrest⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, preserves, algebraic⟩

end Cert.Proof

end
